-- ==== Defs.lean ====
def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_XAmax (m : (ℓ : Loc Cert.XAmax.nD Cert.XAmax.τ Cert.XAmax.sig) → Buf (Elt Bits) ℓ) : Prop :=
  True

def Pre_XAmaxIdeal (m : (ℓ : Loc Cert.XAmaxIdeal.nD Cert.XAmaxIdeal.τ Cert.XAmaxIdeal.sig) → Buf (Elt Ideal) ℓ) : Prop :=
  True

def Pre_XAmaxRefIdeal (m : (ℓ : Loc Cert.XAmaxRefIdeal.nD Cert.XAmaxRefIdeal.τ Cert.XAmaxRefIdeal.sig) → Buf (Elt Ideal) ℓ) : Prop :=
  True

def Pre_DyAmax (m : (ℓ : Loc Cert.DyAmax.nD Cert.DyAmax.τ Cert.DyAmax.sig) → Buf (Elt Bits) ℓ) : Prop :=
  True

def Pre_DyAmaxIdeal (m : (ℓ : Loc Cert.DyAmaxIdeal.nD Cert.DyAmaxIdeal.τ Cert.DyAmaxIdeal.sig) → Buf (Elt Ideal) ℓ) : Prop :=
  True

def Pre_DyAmaxRefIdeal (m : (ℓ : Loc Cert.DyAmaxRefIdeal.nD Cert.DyAmaxRefIdeal.τ Cert.DyAmaxRefIdeal.sig) → Buf (Elt Ideal) ℓ) : Prop :=
  True

def Pre_XScales (m : (ℓ : Loc Cert.XScales.nD Cert.XScales.τ Cert.XScales.sig) → Buf (Elt Bits) ℓ) : Prop :=
  True

def Pre_XScalesIdeal (m : (ℓ : Loc Cert.XScalesIdeal.nD Cert.XScalesIdeal.τ Cert.XScalesIdeal.sig) → Buf (Elt Ideal) ℓ) : Prop :=
  True

def Pre_XScalesRefIdeal (m : (ℓ : Loc Cert.XScalesRefIdeal.nD Cert.XScalesRefIdeal.τ Cert.XScalesRefIdeal.sig) → Buf (Elt Ideal) ℓ) : Prop :=
  True

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3))
      ∧ r.2.sem = fun _ => 0)

def quiescent_XAmax [hXAmax : Cert.XAmax.Facts] : Prop :=
  ∀ (m : (ℓ : Loc Cert.XAmax.nD Cert.XAmax.τ Cert.XAmax.sig) → Buf (Elt Bits) ℓ) (g : Dev Cert.XAmax.nD → PrngReg), Pre_XAmax m →
    θ_run (Cert.XAmax.defs (F := Bits)) (onTc (τ := Cert.XAmax.τ) (Cert.XAmax.main (F := Bits))) ⟨m, fun _ => 0, g⟩ (fun r => (∀ c : Dev Cert.XAmax.nD,
      r.2.mem ((c.tc : Thread Cert.XAmax.nD Cert.XAmax.τ).loc Cert.XAmax.main_arg0) = m ((c.tc : Thread Cert.XAmax.nD Cert.XAmax.τ).loc Cert.XAmax.main_arg0)
      ∧ r.2.mem ((c.tc : Thread Cert.XAmax.nD Cert.XAmax.τ).loc Cert.XAmax.main_arg1) = m ((c.tc : Thread Cert.XAmax.nD Cert.XAmax.τ).loc Cert.XAmax.main_arg1))
      ∧ r.2.sem = fun _ => 0)

def quiescent_XAmaxIdeal [hXAmaxIdeal : Cert.XAmaxIdeal.Facts] : Prop :=
  ∀ (m : (ℓ : Loc Cert.XAmaxIdeal.nD Cert.XAmaxIdeal.τ Cert.XAmaxIdeal.sig) → Buf (Elt Ideal) ℓ) (g : Dev Cert.XAmaxIdeal.nD → PrngReg), Pre_XAmaxIdeal m →
    θ_run (Cert.XAmaxIdeal.defs (F := Ideal)) (onTc (τ := Cert.XAmaxIdeal.τ) (Cert.XAmaxIdeal.main (F := Ideal))) ⟨m, fun _ => 0, g⟩ (fun r => (∀ c : Dev Cert.XAmaxIdeal.nD,
      r.2.mem ((c.tc : Thread Cert.XAmaxIdeal.nD Cert.XAmaxIdeal.τ).loc Cert.XAmaxIdeal.main_arg0) = m ((c.tc : Thread Cert.XAmaxIdeal.nD Cert.XAmaxIdeal.τ).loc Cert.XAmaxIdeal.main_arg0)
      ∧ r.2.mem ((c.tc : Thread Cert.XAmaxIdeal.nD Cert.XAmaxIdeal.τ).loc Cert.XAmaxIdeal.main_arg1) = m ((c.tc : Thread Cert.XAmaxIdeal.nD Cert.XAmaxIdeal.τ).loc Cert.XAmaxIdeal.main_arg1))
      ∧ r.2.sem = fun _ => 0)

def quiescent_XAmaxRefIdeal [hXAmaxRefIdeal : Cert.XAmaxRefIdeal.Facts] : Prop :=
  ∀ (m : (ℓ : Loc Cert.XAmaxRefIdeal.nD Cert.XAmaxRefIdeal.τ Cert.XAmaxRefIdeal.sig) → Buf (Elt Ideal) ℓ) (g : Dev Cert.XAmaxRefIdeal.nD → PrngReg), Pre_XAmaxRefIdeal m →
    θ_run (Cert.XAmaxRefIdeal.defs (F := Ideal)) (onTc (τ := Cert.XAmaxRefIdeal.τ) (Cert.XAmaxRefIdeal.main (F := Ideal))) ⟨m, fun _ => 0, g⟩ (fun r => (∀ c : Dev Cert.XAmaxRefIdeal.nD,
      r.2.mem ((c.tc : Thread Cert.XAmaxRefIdeal.nD Cert.XAmaxRefIdeal.τ).loc Cert.XAmaxRefIdeal.main_arg0) = m ((c.tc : Thread Cert.XAmaxRefIdeal.nD Cert.XAmaxRefIdeal.τ).loc Cert.XAmaxRefIdeal.main_arg0)
      ∧ r.2.mem ((c.tc : Thread Cert.XAmaxRefIdeal.nD Cert.XAmaxRefIdeal.τ).loc Cert.XAmaxRefIdeal.main_arg1) = m ((c.tc : Thread Cert.XAmaxRefIdeal.nD Cert.XAmaxRefIdeal.τ).loc Cert.XAmaxRefIdeal.main_arg1))
      ∧ r.2.sem = fun _ => 0)

def quiescent_DyAmax [hDyAmax : Cert.DyAmax.Facts] : Prop :=
  ∀ (m : (ℓ : Loc Cert.DyAmax.nD Cert.DyAmax.τ Cert.DyAmax.sig) → Buf (Elt Bits) ℓ) (g : Dev Cert.DyAmax.nD → PrngReg), Pre_DyAmax m →
    θ_run (Cert.DyAmax.defs (F := Bits)) (onTc (τ := Cert.DyAmax.τ) (Cert.DyAmax.main (F := Bits))) ⟨m, fun _ => 0, g⟩ (fun r => (∀ c : Dev Cert.DyAmax.nD,
      r.2.mem ((c.tc : Thread Cert.DyAmax.nD Cert.DyAmax.τ).loc Cert.DyAmax.main_arg0) = m ((c.tc : Thread Cert.DyAmax.nD Cert.DyAmax.τ).loc Cert.DyAmax.main_arg0)
      ∧ r.2.mem ((c.tc : Thread Cert.DyAmax.nD Cert.DyAmax.τ).loc Cert.DyAmax.main_arg1) = m ((c.tc : Thread Cert.DyAmax.nD Cert.DyAmax.τ).loc Cert.DyAmax.main_arg1))
      ∧ r.2.sem = fun _ => 0)

def quiescent_DyAmaxIdeal [hDyAmaxIdeal : Cert.DyAmaxIdeal.Facts] : Prop :=
  ∀ (m : (ℓ : Loc Cert.DyAmaxIdeal.nD Cert.DyAmaxIdeal.τ Cert.DyAmaxIdeal.sig) → Buf (Elt Ideal) ℓ) (g : Dev Cert.DyAmaxIdeal.nD → PrngReg), Pre_DyAmaxIdeal m →
    θ_run (Cert.DyAmaxIdeal.defs (F := Ideal)) (onTc (τ := Cert.DyAmaxIdeal.τ) (Cert.DyAmaxIdeal.main (F := Ideal))) ⟨m, fun _ => 0, g⟩ (fun r => (∀ c : Dev Cert.DyAmaxIdeal.nD,
      r.2.mem ((c.tc : Thread Cert.DyAmaxIdeal.nD Cert.DyAmaxIdeal.τ).loc Cert.DyAmaxIdeal.main_arg0) = m ((c.tc : Thread Cert.DyAmaxIdeal.nD Cert.DyAmaxIdeal.τ).loc Cert.DyAmaxIdeal.main_arg0)
      ∧ r.2.mem ((c.tc : Thread Cert.DyAmaxIdeal.nD Cert.DyAmaxIdeal.τ).loc Cert.DyAmaxIdeal.main_arg1) = m ((c.tc : Thread Cert.DyAmaxIdeal.nD Cert.DyAmaxIdeal.τ).loc Cert.DyAmaxIdeal.main_arg1))
      ∧ r.2.sem = fun _ => 0)

def quiescent_DyAmaxRefIdeal [hDyAmaxRefIdeal : Cert.DyAmaxRefIdeal.Facts] : Prop :=
  ∀ (m : (ℓ : Loc Cert.DyAmaxRefIdeal.nD Cert.DyAmaxRefIdeal.τ Cert.DyAmaxRefIdeal.sig) → Buf (Elt Ideal) ℓ) (g : Dev Cert.DyAmaxRefIdeal.nD → PrngReg), Pre_DyAmaxRefIdeal m →
    θ_run (Cert.DyAmaxRefIdeal.defs (F := Ideal)) (onTc (τ := Cert.DyAmaxRefIdeal.τ) (Cert.DyAmaxRefIdeal.main (F := Ideal))) ⟨m, fun _ => 0, g⟩ (fun r => (∀ c : Dev Cert.DyAmaxRefIdeal.nD,
      r.2.mem ((c.tc : Thread Cert.DyAmaxRefIdeal.nD Cert.DyAmaxRefIdeal.τ).loc Cert.DyAmaxRefIdeal.main_arg0) = m ((c.tc : Thread Cert.DyAmaxRefIdeal.nD Cert.DyAmaxRefIdeal.τ).loc Cert.DyAmaxRefIdeal.main_arg0)
      ∧ r.2.mem ((c.tc : Thread Cert.DyAmaxRefIdeal.nD Cert.DyAmaxRefIdeal.τ).loc Cert.DyAmaxRefIdeal.main_arg1) = m ((c.tc : Thread Cert.DyAmaxRefIdeal.nD Cert.DyAmaxRefIdeal.τ).loc Cert.DyAmaxRefIdeal.main_arg1))
      ∧ r.2.sem = fun _ => 0)

def quiescent_XScales [hXScales : Cert.XScales.Facts] : Prop :=
  ∀ (m : (ℓ : Loc Cert.XScales.nD Cert.XScales.τ Cert.XScales.sig) → Buf (Elt Bits) ℓ) (g : Dev Cert.XScales.nD → PrngReg), Pre_XScales m →
    θ_run (Cert.XScales.defs (F := Bits)) (onTc (τ := Cert.XScales.τ) (Cert.XScales.main (F := Bits))) ⟨m, fun _ => 0, g⟩ (fun r => (∀ c : Dev Cert.XScales.nD,
      r.2.mem ((c.tc : Thread Cert.XScales.nD Cert.XScales.τ).loc Cert.XScales.main_arg0) = m ((c.tc : Thread Cert.XScales.nD Cert.XScales.τ).loc Cert.XScales.main_arg0)
      ∧ r.2.mem ((c.tc : Thread Cert.XScales.nD Cert.XScales.τ).loc Cert.XScales.main_arg1) = m ((c.tc : Thread Cert.XScales.nD Cert.XScales.τ).loc Cert.XScales.main_arg1)
      ∧ r.2.mem ((c.tc : Thread Cert.XScales.nD Cert.XScales.τ).loc Cert.XScales.main_arg2) = m ((c.tc : Thread Cert.XScales.nD Cert.XScales.τ).loc Cert.XScales.main_arg2))
      ∧ r.2.sem = fun _ => 0)

def quiescent_XScalesIdeal [hXScalesIdeal : Cert.XScalesIdeal.Facts] : Prop :=
  ∀ (m : (ℓ : Loc Cert.XScalesIdeal.nD Cert.XScalesIdeal.τ Cert.XScalesIdeal.sig) → Buf (Elt Ideal) ℓ) (g : Dev Cert.XScalesIdeal.nD → PrngReg), Pre_XScalesIdeal m →
    θ_run (Cert.XScalesIdeal.defs (F := Ideal)) (onTc (τ := Cert.XScalesIdeal.τ) (Cert.XScalesIdeal.main (F := Ideal))) ⟨m, fun _ => 0, g⟩ (fun r => (∀ c : Dev Cert.XScalesIdeal.nD,
      r.2.mem ((c.tc : Thread Cert.XScalesIdeal.nD Cert.XScalesIdeal.τ).loc Cert.XScalesIdeal.main_arg0) = m ((c.tc : Thread Cert.XScalesIdeal.nD Cert.XScalesIdeal.τ).loc Cert.XScalesIdeal.main_arg0)
      ∧ r.2.mem ((c.tc : Thread Cert.XScalesIdeal.nD Cert.XScalesIdeal.τ).loc Cert.XScalesIdeal.main_arg1) = m ((c.tc : Thread Cert.XScalesIdeal.nD Cert.XScalesIdeal.τ).loc Cert.XScalesIdeal.main_arg1)
      ∧ r.2.mem ((c.tc : Thread Cert.XScalesIdeal.nD Cert.XScalesIdeal.τ).loc Cert.XScalesIdeal.main_arg2) = m ((c.tc : Thread Cert.XScalesIdeal.nD Cert.XScalesIdeal.τ).loc Cert.XScalesIdeal.main_arg2))
      ∧ r.2.sem = fun _ => 0)

def quiescent_XScalesRefIdeal [hXScalesRefIdeal : Cert.XScalesRefIdeal.Facts] : Prop :=
  ∀ (m : (ℓ : Loc Cert.XScalesRefIdeal.nD Cert.XScalesRefIdeal.τ Cert.XScalesRefIdeal.sig) → Buf (Elt Ideal) ℓ) (g : Dev Cert.XScalesRefIdeal.nD → PrngReg), Pre_XScalesRefIdeal m →
    θ_run (Cert.XScalesRefIdeal.defs (F := Ideal)) (onTc (τ := Cert.XScalesRefIdeal.τ) (Cert.XScalesRefIdeal.main (F := Ideal))) ⟨m, fun _ => 0, g⟩ (fun r => (∀ c : Dev Cert.XScalesRefIdeal.nD,
      r.2.mem ((c.tc : Thread Cert.XScalesRefIdeal.nD Cert.XScalesRefIdeal.τ).loc Cert.XScalesRefIdeal.main_arg0) = m ((c.tc : Thread Cert.XScalesRefIdeal.nD Cert.XScalesRefIdeal.τ).loc Cert.XScalesRefIdeal.main_arg0)
      ∧ r.2.mem ((c.tc : Thread Cert.XScalesRefIdeal.nD Cert.XScalesRefIdeal.τ).loc Cert.XScalesRefIdeal.main_arg1) = m ((c.tc : Thread Cert.XScalesRefIdeal.nD Cert.XScalesRefIdeal.τ).loc Cert.XScalesRefIdeal.main_arg1)
      ∧ r.2.mem ((c.tc : Thread Cert.XScalesRefIdeal.nD Cert.XScalesRefIdeal.τ).loc Cert.XScalesRefIdeal.main_arg2) = m ((c.tc : Thread Cert.XScalesRefIdeal.nD Cert.XScalesRefIdeal.τ).loc Cert.XScalesRefIdeal.main_arg2))
      ∧ r.2.sem = fun _ => 0)

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)) →
    ∃ (v0 : (c : Dev Cert.DwIdeal.nD) → Buf (Elt Ideal) ((c.tc : Thread Cert.DwIdeal.nD Cert.DwIdeal.τ).loc Cert.DwIdeal.main_v0)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0) = v0 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v5) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3))

def preserves_XAmax_XAmaxIdeal : Prop :=
  IdealRules.bf16_pair.Statement Cert.XAmaxIdeal.S8x2x128 Cert.XAmaxIdeal.S8x1x128
  ∧ IdealRules.bf16_pair.Statement Cert.XAmaxIdeal.S16x128 Cert.XAmaxIdeal.S8x128

def algebraic_XAmaxIdeal_XAmaxRefIdeal [hXAmaxIdeal : Cert.XAmaxIdeal.Facts] [hXAmaxRefIdeal : Cert.XAmaxRefIdeal.Facts] : Prop :=
  ∀ (m : (ℓ : Loc Cert.XAmaxIdeal.nD Cert.XAmaxIdeal.τ Cert.XAmaxIdeal.sig) → Buf (Elt Ideal) ℓ) (g : Dev Cert.XAmaxIdeal.nD → PrngReg)
    (m' : (ℓ : Loc Cert.XAmaxRefIdeal.nD Cert.XAmaxRefIdeal.τ Cert.XAmaxRefIdeal.sig) → Buf (Elt Ideal) ℓ) (g' : Dev Cert.XAmaxRefIdeal.nD → PrngReg), Pre_XAmaxIdeal m →
    (∀ c : Dev Cert.XAmaxIdeal.nD,
      m' ((c.tc : Thread Cert.XAmaxRefIdeal.nD Cert.XAmaxRefIdeal.τ).loc Cert.XAmaxRefIdeal.main_arg0) = m ((c.tc : Thread Cert.XAmaxIdeal.nD Cert.XAmaxIdeal.τ).loc Cert.XAmaxIdeal.main_arg0)
      ∧ m' ((c.tc : Thread Cert.XAmaxRefIdeal.nD Cert.XAmaxRefIdeal.τ).loc Cert.XAmaxRefIdeal.main_arg1) = m ((c.tc : Thread Cert.XAmaxIdeal.nD Cert.XAmaxIdeal.τ).loc Cert.XAmaxIdeal.main_arg1)) →
    ∃ (v0 : (c : Dev Cert.XAmaxIdeal.nD) → Buf (Elt Ideal) ((c.tc : Thread Cert.XAmaxIdeal.nD Cert.XAmaxIdeal.τ).loc Cert.XAmaxIdeal.main_v1)),
      θ_run (Cert.XAmaxIdeal.defs (F := Ideal)) (onTc (τ := Cert.XAmaxIdeal.τ) (Cert.XAmaxIdeal.main (F := Ideal))) ⟨m, fun _ => 0, g⟩ (fun r => ∀ c : Dev Cert.XAmaxIdeal.nD,
          r.2.mem ((c.tc : Thread Cert.XAmaxIdeal.nD Cert.XAmaxIdeal.τ).loc Cert.XAmaxIdeal.main_v1) = v0 c
          ∧ r.2.mem ((c.tc : Thread Cert.XAmaxIdeal.nD Cert.XAmaxIdeal.τ).loc Cert.XAmaxIdeal.main_arg0) = m ((c.tc : Thread Cert.XAmaxIdeal.nD Cert.XAmaxIdeal.τ).loc Cert.XAmaxIdeal.main_arg0)
          ∧ r.2.mem ((c.tc : Thread Cert.XAmaxIdeal.nD Cert.XAmaxIdeal.τ).loc Cert.XAmaxIdeal.main_arg1) = m ((c.tc : Thread Cert.XAmaxIdeal.nD Cert.XAmaxIdeal.τ).loc Cert.XAmaxIdeal.main_arg1))
      ∧ θ_run (Cert.XAmaxRefIdeal.defs (F := Ideal)) (onTc (τ := Cert.XAmaxRefIdeal.τ) (Cert.XAmaxRefIdeal.main (F := Ideal))) ⟨m', fun _ => 0, g'⟩ (fun r => ∀ c : Dev Cert.XAmaxRefIdeal.nD,
          r.2.mem ((c.tc : Thread Cert.XAmaxRefIdeal.nD Cert.XAmaxRefIdeal.τ).loc Cert.XAmaxRefIdeal.main_v30) = v0 c
          ∧ r.2.mem ((c.tc : Thread Cert.XAmaxRefIdeal.nD Cert.XAmaxRefIdeal.τ).loc Cert.XAmaxRefIdeal.main_arg0) = m' ((c.tc : Thread Cert.XAmaxRefIdeal.nD Cert.XAmaxRefIdeal.τ).loc Cert.XAmaxRefIdeal.main_arg0)
          ∧ r.2.mem ((c.tc : Thread Cert.XAmaxRefIdeal.nD Cert.XAmaxRefIdeal.τ).loc Cert.XAmaxRefIdeal.main_arg1) = m' ((c.tc : Thread Cert.XAmaxRefIdeal.nD Cert.XAmaxRefIdeal.τ).loc Cert.XAmaxRefIdeal.main_arg1))

def preserves_DyAmax_DyAmaxIdeal : Prop :=
  IdealRules.bf16_pair.Statement Cert.DyAmaxIdeal.S8x2x128 Cert.DyAmaxIdeal.S8x1x128
  ∧ IdealRules.bf16_pair.Statement Cert.DyAmaxIdeal.S16x128 Cert.DyAmaxIdeal.S8x128

def algebraic_DyAmaxIdeal_DyAmaxRefIdeal [hDyAmaxIdeal : Cert.DyAmaxIdeal.Facts] [hDyAmaxRefIdeal : Cert.DyAmaxRefIdeal.Facts] : Prop :=
  ∀ (m : (ℓ : Loc Cert.DyAmaxIdeal.nD Cert.DyAmaxIdeal.τ Cert.DyAmaxIdeal.sig) → Buf (Elt Ideal) ℓ) (g : Dev Cert.DyAmaxIdeal.nD → PrngReg)
    (m' : (ℓ : Loc Cert.DyAmaxRefIdeal.nD Cert.DyAmaxRefIdeal.τ Cert.DyAmaxRefIdeal.sig) → Buf (Elt Ideal) ℓ) (g' : Dev Cert.DyAmaxRefIdeal.nD → PrngReg), Pre_DyAmaxIdeal m →
    (∀ c : Dev Cert.DyAmaxIdeal.nD,
      m' ((c.tc : Thread Cert.DyAmaxRefIdeal.nD Cert.DyAmaxRefIdeal.τ).loc Cert.DyAmaxRefIdeal.main_arg0) = m ((c.tc : Thread Cert.DyAmaxIdeal.nD Cert.DyAmaxIdeal.τ).loc Cert.DyAmaxIdeal.main_arg0)
      ∧ m' ((c.tc : Thread Cert.DyAmaxRefIdeal.nD Cert.DyAmaxRefIdeal.τ).loc Cert.DyAmaxRefIdeal.main_arg1) = m ((c.tc : Thread Cert.DyAmaxIdeal.nD Cert.DyAmaxIdeal.τ).loc Cert.DyAmaxIdeal.main_arg1)) →
    ∃ (v0 : (c : Dev Cert.DyAmaxIdeal.nD) → Buf (Elt Ideal) ((c.tc : Thread Cert.DyAmaxIdeal.nD Cert.DyAmaxIdeal.τ).loc Cert.DyAmaxIdeal.main_v1)),
      θ_run (Cert.DyAmaxIdeal.defs (F := Ideal)) (onTc (τ := Cert.DyAmaxIdeal.τ) (Cert.DyAmaxIdeal.main (F := Ideal))) ⟨m, fun _ => 0, g⟩ (fun r => ∀ c : Dev Cert.DyAmaxIdeal.nD,
          r.2.mem ((c.tc : Thread Cert.DyAmaxIdeal.nD Cert.DyAmaxIdeal.τ).loc Cert.DyAmaxIdeal.main_v1) = v0 c
          ∧ r.2.mem ((c.tc : Thread Cert.DyAmaxIdeal.nD Cert.DyAmaxIdeal.τ).loc Cert.DyAmaxIdeal.main_arg0) = m ((c.tc : Thread Cert.DyAmaxIdeal.nD Cert.DyAmaxIdeal.τ).loc Cert.DyAmaxIdeal.main_arg0)
          ∧ r.2.mem ((c.tc : Thread Cert.DyAmaxIdeal.nD Cert.DyAmaxIdeal.τ).loc Cert.DyAmaxIdeal.main_arg1) = m ((c.tc : Thread Cert.DyAmaxIdeal.nD Cert.DyAmaxIdeal.τ).loc Cert.DyAmaxIdeal.main_arg1))
      ∧ θ_run (Cert.DyAmaxRefIdeal.defs (F := Ideal)) (onTc (τ := Cert.DyAmaxRefIdeal.τ) (Cert.DyAmaxRefIdeal.main (F := Ideal))) ⟨m', fun _ => 0, g'⟩ (fun r => ∀ c : Dev Cert.DyAmaxRefIdeal.nD,
          r.2.mem ((c.tc : Thread Cert.DyAmaxRefIdeal.nD Cert.DyAmaxRefIdeal.τ).loc Cert.DyAmaxRefIdeal.main_v30) = v0 c
          ∧ r.2.mem ((c.tc : Thread Cert.DyAmaxRefIdeal.nD Cert.DyAmaxRefIdeal.τ).loc Cert.DyAmaxRefIdeal.main_arg0) = m' ((c.tc : Thread Cert.DyAmaxRefIdeal.nD Cert.DyAmaxRefIdeal.τ).loc Cert.DyAmaxRefIdeal.main_arg0)
          ∧ r.2.mem ((c.tc : Thread Cert.DyAmaxRefIdeal.nD Cert.DyAmaxRefIdeal.τ).loc Cert.DyAmaxRefIdeal.main_arg1) = m' ((c.tc : Thread Cert.DyAmaxRefIdeal.nD Cert.DyAmaxRefIdeal.τ).loc Cert.DyAmaxRefIdeal.main_arg1))

def preserves_XScales_XScalesIdeal : Prop :=
  IdealRules.bf16_pair.Statement Cert.XScalesIdeal.S8x2x128 Cert.XScalesIdeal.S8x1x128
  ∧ IdealRules.bf16_pair.Statement Cert.XScalesIdeal.S16x128 Cert.XScalesIdeal.S8x128
  ∧ IdealRules.bf16_pair.PackStatement Cert.XScalesIdeal.S8x128

def algebraic_XScalesIdeal_XScalesRefIdeal [hXScalesIdeal : Cert.XScalesIdeal.Facts] [hXScalesRefIdeal : Cert.XScalesRefIdeal.Facts] : Prop :=
  ∀ (m : (ℓ : Loc Cert.XScalesIdeal.nD Cert.XScalesIdeal.τ Cert.XScalesIdeal.sig) → Buf (Elt Ideal) ℓ) (g : Dev Cert.XScalesIdeal.nD → PrngReg)
    (m' : (ℓ : Loc Cert.XScalesRefIdeal.nD Cert.XScalesRefIdeal.τ Cert.XScalesRefIdeal.sig) → Buf (Elt Ideal) ℓ) (g' : Dev Cert.XScalesRefIdeal.nD → PrngReg), Pre_XScalesIdeal m →
    (∀ c : Dev Cert.XScalesIdeal.nD,
      m' ((c.tc : Thread Cert.XScalesRefIdeal.nD Cert.XScalesRefIdeal.τ).loc Cert.XScalesRefIdeal.main_arg0) = m ((c.tc : Thread Cert.XScalesIdeal.nD Cert.XScalesIdeal.τ).loc Cert.XScalesIdeal.main_arg0)
      ∧ m' ((c.tc : Thread Cert.XScalesRefIdeal.nD Cert.XScalesRefIdeal.τ).loc Cert.XScalesRefIdeal.main_arg1) = m ((c.tc : Thread Cert.XScalesIdeal.nD Cert.XScalesIdeal.τ).loc Cert.XScalesIdeal.main_arg1)
      ∧ m' ((c.tc : Thread Cert.XScalesRefIdeal.nD Cert.XScalesRefIdeal.τ).loc Cert.XScalesRefIdeal.main_arg2) = m ((c.tc : Thread Cert.XScalesIdeal.nD Cert.XScalesIdeal.τ).loc Cert.XScalesIdeal.main_arg2)) →
    ∃ (v0 : (c : Dev Cert.XScalesIdeal.nD) → Buf (Elt Ideal) ((c.tc : Thread Cert.XScalesIdeal.nD Cert.XScalesIdeal.τ).loc Cert.XScalesIdeal.main_v3_2)),
      θ_run (Cert.XScalesIdeal.defs (F := Ideal)) (onTc (τ := Cert.XScalesIdeal.τ) (Cert.XScalesIdeal.main (F := Ideal))) ⟨m, fun _ => 0, g⟩ (fun r => ∀ c : Dev Cert.XScalesIdeal.nD,
          r.2.mem ((c.tc : Thread Cert.XScalesIdeal.nD Cert.XScalesIdeal.τ).loc Cert.XScalesIdeal.main_v3_2) = v0 c
          ∧ r.2.mem ((c.tc : Thread Cert.XScalesIdeal.nD Cert.XScalesIdeal.τ).loc Cert.XScalesIdeal.main_arg0) = m ((c.tc : Thread Cert.XScalesIdeal.nD Cert.XScalesIdeal.τ).loc Cert.XScalesIdeal.main_arg0)
          ∧ r.2.mem ((c.tc : Thread Cert.XScalesIdeal.nD Cert.XScalesIdeal.τ).loc Cert.XScalesIdeal.main_arg1) = m ((c.tc : Thread Cert.XScalesIdeal.nD Cert.XScalesIdeal.τ).loc Cert.XScalesIdeal.main_arg1)
          ∧ r.2.mem ((c.tc : Thread Cert.XScalesIdeal.nD Cert.XScalesIdeal.τ).loc Cert.XScalesIdeal.main_arg2) = m ((c.tc : Thread Cert.XScalesIdeal.nD Cert.XScalesIdeal.τ).loc Cert.XScalesIdeal.main_arg2))
      ∧ θ_run (Cert.XScalesRefIdeal.defs (F := Ideal)) (onTc (τ := Cert.XScalesRefIdeal.τ) (Cert.XScalesRefIdeal.main (F := Ideal))) ⟨m', fun _ => 0, g'⟩ (fun r => ∀ c : Dev Cert.XScalesRefIdeal.nD,
          r.2.mem ((c.tc : Thread Cert.XScalesRefIdeal.nD Cert.XScalesRefIdeal.τ).loc Cert.XScalesRefIdeal.main_v32) = v0 c
          ∧ r.2.mem ((c.tc : Thread Cert.XScalesRefIdeal.nD Cert.XScalesRefIdeal.τ).loc Cert.XScalesRefIdeal.main_arg0) = m' ((c.tc : Thread Cert.XScalesRefIdeal.nD Cert.XScalesRefIdeal.τ).loc Cert.XScalesRefIdeal.main_arg0)
          ∧ r.2.mem ((c.tc : Thread Cert.XScalesRefIdeal.nD Cert.XScalesRefIdeal.τ).loc Cert.XScalesRefIdeal.main_arg1) = m' ((c.tc : Thread Cert.XScalesRefIdeal.nD Cert.XScalesRefIdeal.τ).loc Cert.XScalesRefIdeal.main_arg1)
          ∧ r.2.mem ((c.tc : Thread Cert.XScalesRefIdeal.nD Cert.XScalesRefIdeal.τ).loc Cert.XScalesRefIdeal.main_arg2) = m' ((c.tc : Thread Cert.XScalesRefIdeal.nD Cert.XScalesRefIdeal.τ).loc Cert.XScalesRefIdeal.main_arg2))

def Claim : Prop :=
  ∃ (hDw : Cert.Dw.Facts) (hDwIdeal : Cert.DwIdeal.Facts) (hDwRefIdeal : Cert.DwRefIdeal.Facts) (hXAmax : Cert.XAmax.Facts) (hXAmaxIdeal : Cert.XAmaxIdeal.Facts) (hXAmaxRefIdeal : Cert.XAmaxRefIdeal.Facts) (hDyAmax : Cert.DyAmax.Facts) (hDyAmaxIdeal : Cert.DyAmaxIdeal.Facts) (hDyAmaxRefIdeal : Cert.DyAmaxRefIdeal.Facts) (hXScales : Cert.XScales.Facts) (hXScalesIdeal : Cert.XScalesIdeal.Facts) (hXScalesRefIdeal : Cert.XScalesRefIdeal.Facts),
    quiescent_Dw (hDw := hDw)
    ∧ quiescent_DwIdeal (hDwIdeal := hDwIdeal)
    ∧ quiescent_DwRefIdeal (hDwRefIdeal := hDwRefIdeal)
    ∧ quiescent_XAmax (hXAmax := hXAmax)
    ∧ quiescent_XAmaxIdeal (hXAmaxIdeal := hXAmaxIdeal)
    ∧ quiescent_XAmaxRefIdeal (hXAmaxRefIdeal := hXAmaxRefIdeal)
    ∧ quiescent_DyAmax (hDyAmax := hDyAmax)
    ∧ quiescent_DyAmaxIdeal (hDyAmaxIdeal := hDyAmaxIdeal)
    ∧ quiescent_DyAmaxRefIdeal (hDyAmaxRefIdeal := hDyAmaxRefIdeal)
    ∧ quiescent_XScales (hXScales := hXScales)
    ∧ quiescent_XScalesIdeal (hXScalesIdeal := hXScalesIdeal)
    ∧ quiescent_XScalesRefIdeal (hXScalesRefIdeal := hXScalesRefIdeal)
    ∧ preserves_Dw_DwIdeal
    ∧ algebraic_DwIdeal_DwRefIdeal (hDwIdeal := hDwIdeal) (hDwRefIdeal := hDwRefIdeal)
    ∧ preserves_XAmax_XAmaxIdeal
    ∧ algebraic_XAmaxIdeal_XAmaxRefIdeal (hXAmaxIdeal := hXAmaxIdeal) (hXAmaxRefIdeal := hXAmaxRefIdeal)
    ∧ preserves_DyAmax_DyAmaxIdeal
    ∧ algebraic_DyAmaxIdeal_DyAmaxRefIdeal (hDyAmaxIdeal := hDyAmaxIdeal) (hDyAmaxRefIdeal := hDyAmaxRefIdeal)
    ∧ preserves_XScales_XScalesIdeal
    ∧ algebraic_XScalesIdeal_XScalesRefIdeal (hXScalesIdeal := hXScalesIdeal) (hXScalesRefIdeal := hXScalesRefIdeal)
-- ==== Dw.lean ====
abbrev S8x128 : Shape := ⟨2, ![8, 128]⟩
abbrev S18432x6144 : Shape := ⟨2, ![18432, 6144]⟩
abbrev S6144x7168 : Shape := ⟨2, ![6144, 7168]⟩
abbrev S18432x7168 : Shape := ⟨2, ![18432, 7168]⟩
abbrev S1024x6144 : Shape := ⟨2, ![1024, 6144]⟩
abbrev S6144x512 : Shape := ⟨2, ![6144, 512]⟩
abbrev S1024x512 : Shape := ⟨2, ![1024, 512]⟩
abbrev S1x1 : Shape := ⟨2, ![1, 1]⟩

abbrev nBuf : Space → Nat
  | .hbm => 5
  | .vmem => 8
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S18432x6144, .bf16⟩
  | .hbm, ⟨3, _⟩ => ⟨S6144x7168, .bf16⟩
  | .hbm, ⟨4, _⟩ => ⟨S18432x7168, .f32⟩
  | .local _ .vmem, ⟨0, _⟩ => ⟨S8x128, .f32⟩
  | .local _ .vmem, ⟨1, _⟩ => ⟨S8x128, .f32⟩
  | .local _ .vmem, ⟨2, _⟩ => ⟨S1024x6144, .bf16⟩
  | .local _ .vmem, ⟨3, _⟩ => ⟨S1024x6144, .bf16⟩
  | .local _ .vmem, ⟨4, _⟩ => ⟨S6144x512, .bf16⟩
  | .local _ .vmem, ⟨5, _⟩ => ⟨S6144x512, .bf16⟩
  | .local _ .vmem, ⟨6, _⟩ => ⟨S1024x512, .f32⟩
  | .local _ .vmem, ⟨7, _⟩ => ⟨S1024x512, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![18, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x6144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S6144x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DwRefIdeal.lean ====
abbrev S8x128 : Shape := ⟨2, ![8, 128]⟩
abbrev S18432x6144 : Shape := ⟨2, ![18432, 6144]⟩
abbrev S6144x7168 : Shape := ⟨2, ![6144, 7168]⟩
abbrev S18432x7168 : Shape := ⟨2, ![18432, 7168]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S18432x6144, .bf16⟩
  | .hbm, ⟨3, _⟩ => ⟨S6144x7168, .bf16⟩
  | .hbm, ⟨4, _⟩ => ⟨S18432x7168, .f32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S18432x7168, .f32⟩
  | .hbm, ⟨9, _⟩ => ⟨S18432x7168, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== XAmax.lean ====
abbrev S6x1024x7168 : Shape := ⟨3, ![6, 1024, 7168]⟩
abbrev S16 : Shape := ⟨1, ![16]⟩
abbrev S6144x7168 : Shape := ⟨2, ![6144, 7168]⟩
abbrev S8x128 : Shape := ⟨2, ![8, 128]⟩
abbrev S3072x128 : Shape := ⟨2, ![3072, 128]⟩
abbrev S1 : Shape := ⟨1, ![1]⟩
abbrev S1536x128 : Shape := ⟨2, ![1536, 128]⟩
abbrev S64x128 : Shape := ⟨2, ![64, 128]⟩
abbrev S1536x2x128 : Shape := ⟨3, ![1536, 2, 128]⟩
abbrev S8x2x128 : Shape := ⟨3, ![8, 2, 128]⟩
abbrev S8x1x128 : Shape := ⟨3, ![8, 1, 128]⟩
abbrev S1x8x128 : Shape := ⟨3, ![1, 8, 128]⟩
abbrev S1x1x1 : Shape := ⟨3, ![1, 1, 1]⟩

abbrev nBuf : Space → Nat
  | .hbm => 4
  | .vmem => 4
  | .smem => 1
  | _ => 0

abbrev bufTy : (tb : Table) → Fin (tcTables nBuf tb) → BufTy
  | .hbm, ⟨0, _⟩ => ⟨S6x1024x7168, .bf16⟩
  | .hbm, ⟨1, _⟩ => ⟨S16, .f32⟩
  | .hbm, ⟨2, _⟩ => ⟨S6144x7168, .bf16⟩
  | .hbm, ⟨3, _⟩ => ⟨S8x128, .f32⟩
  | .local _ .vmem, ⟨0, _⟩ => ⟨S3072x128, .bf16⟩
  | .local _ .vmem, ⟨1, _⟩ => ⟨S3072x128, .bf16⟩
  | .local _ .vmem, ⟨2, _⟩ => ⟨S8x128, .f32⟩
  | .local _ .vmem, ⟨3, _⟩ => ⟨S8x128, .f32⟩
  | .local _ .smem, ⟨0, _⟩ => ⟨S16, .f32⟩
  | _, _ => ⟨S6x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_scratch0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [BitOps F]

abbrev grid0 : Pipeline.Grid := ⟨2, ![2, 56], ![false, false]⟩

@[reducible] def k0_t1_loop : Scf.Loop 32 :=
  let c0_i32_3 : BitVec 32 := 0#32
  let c24_i32 : BitVec 32 := 24#32
  let v22 : BitVec 32 := Scalar.addi c0_i32_3 c24_i32
  let c1_i32 : BitVec 32 := 1#32
  ⟨c0_i32_3, v22, c1_i32⟩
def k0_mult1 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32 : BitVec 32 := 64#32
  let v30 : BitVec 32 := Scalar.muli arg6 c64_i32
  v30
def k0_off1 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32 : BitVec 32 := 64#32
  let v30 : BitVec 32 := Scalar.muli arg6 c64_i32
  let v31 : BitVec 32 := v30
  let c0_i32_8 : BitVec 32 := 0#32
  ![v31.toNat, 0, 0]
def k0_mult2 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_11 : BitVec 32 := 64#32
  let v36 : BitVec 32 := Scalar.muli arg6 c64_i32_11
  v36
def k0_off2 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_11 : BitVec 32 := 64#32
  let v36 : BitVec 32 := Scalar.muli arg6 c64_i32_11
  let v37 : BitVec 32 := v36
  let c0_i32_12 : BitVec 32 := 0#32
  ![Nat.add v37.toNat 1, 0, 0]
def k0_mult3 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_15 : BitVec 32 := 64#32
  let v42 : BitVec 32 := Scalar.muli arg6 c64_i32_15
  v42
def k0_off3 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_15 : BitVec 32 := 64#32
  let v42 : BitVec 32 := Scalar.muli arg6 c64_i32_15
  let v43 : BitVec 32 := v42
  let c0_i32_16 : BitVec 32 := 0#32
  ![Nat.add v43.toNat 2, 0, 0]
def k0_mult4 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_19 : BitVec 32 := 64#32
  let v48 : BitVec 32 := Scalar.muli arg6 c64_i32_19
  v48
def k0_off4 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_19 : BitVec 32 := 64#32
  let v48 : BitVec 32 := Scalar.muli arg6 c64_i32_19
  let v49 : BitVec 32 := v48
  let c0_i32_20 : BitVec 32 := 0#32
  ![Nat.add v49.toNat 3, 0, 0]
def k0_mult5 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_23 : BitVec 32 := 64#32
  let v54 : BitVec 32 := Scalar.muli arg6 c64_i32_23
  v54
def k0_off5 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_23 : BitVec 32 := 64#32
  let v54 : BitVec 32 := Scalar.muli arg6 c64_i32_23
  let v55 : BitVec 32 := v54
  let c0_i32_24 : BitVec 32 := 0#32
  ![Nat.add v55.toNat 4, 0, 0]
def k0_mult6 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_27 : BitVec 32 := 64#32
  let v60 : BitVec 32 := Scalar.muli arg6 c64_i32_27
  v60
def k0_off6 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_27 : BitVec 32 := 64#32
  let v60 : BitVec 32 := Scalar.muli arg6 c64_i32_27
  let v61 : BitVec 32 := v60
  let c0_i32_28 : BitVec 32 := 0#32
  ![Nat.add v61.toNat 5, 0, 0]
def k0_mult7 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_31 : BitVec 32 := 64#32
  let v66 : BitVec 32 := Scalar.muli arg6 c64_i32_31
  v66
def k0_off7 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_31 : BitVec 32 := 64#32
  let v66 : BitVec 32 := Scalar.muli arg6 c64_i32_31
  let v67 : BitVec 32 := v66
  let c0_i32_32 : BitVec 32 := 0#32
  ![Nat.add v67.toNat 6, 0, 0]
def k0_mult8 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_35 : BitVec 32 := 64#32
  let v72 : BitVec 32 := Scalar.muli arg6 c64_i32_35
  v72
def k0_off8 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_35 : BitVec 32 := 64#32
  let v72 : BitVec 32 := Scalar.muli arg6 c64_i32_35
  let v73 : BitVec 32 := v72
  let c0_i32_36 : BitVec 32 := 0#32
  ![Nat.add v73.toNat 7, 0, 0]
def k0_cond2 (i : grid0.Coords) : BitVec 1 :=
  let arg0 : BitVec 32 := BitVec.ofNat 32 (i 0).val
  let c56_i32 : BitVec 32 := 56#32
  let v0 : BitVec 32 := Scalar.muli arg0 c56_i32
  let arg1 : BitVec 32 := BitVec.ofNat 32 (i 1).val
  let v1 : BitVec 32 := Scalar.addi v0 arg1
  let c111_i32 : BitVec 32 := 111#32
  let v27 : BitVec 1 := Scalar.cmpi .eq v1 c111_i32
  let v28 : BitVec 32 := Scalar.extui v27
  let c0_i32_7 : BitVec 32 := 0#32
  let v29 : BitVec 1 := Scalar.cmpi .ne v28 c0_i32_7
  v29

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3072x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== XAmaxIdeal.lean ====
abbrev S16x128 : Shape := ⟨2, ![16, 128]⟩
variable {F : FTy → Type} [FloatOps F]
-- ==== XAmaxRefIdeal.lean ====
abbrev S6x1024x7168 : Shape := ⟨3, ![6, 1024, 7168]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S6x64x16x7168 : Shape := ⟨4, ![6, 64, 16, 7168]⟩
abbrev S6x64x7168x16 : Shape := ⟨4, ![6, 64, 7168, 16]⟩
abbrev S7168x6x64x16 : Shape := ⟨4, ![7168, 6, 64, 16]⟩
abbrev S1 : Shape := ⟨1, ![1]⟩
abbrev S1x1 : Shape := ⟨2, ![1, 1]⟩
abbrev S8x128 : Shape := ⟨2, ![8, 128]⟩

abbrev nBuf : Space → Nat
  | .hbm => 42
  | .vmem => 0
  | .smem => 0
  | _ => 0

abbrev bufTy : (tb : Table) → Fin (tcTables nBuf tb) → BufTy
  | .hbm, ⟨0, _⟩ => ⟨S6x1024x7168, .bf16⟩
  | .hbm, ⟨1, _⟩ => ⟨S16, .f32⟩
  | .hbm, ⟨2, _⟩ => ⟨S16, .i32⟩
  | .hbm, ⟨3, _⟩ => ⟨S16x1, .i32⟩
  | .hbm, ⟨4, _⟩ => ⟨S1x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .f32⟩
  | .hbm, ⟨19, _⟩ => ⟨S1x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .f32⟩
  | .hbm, ⟨25, _⟩ => ⟨S6x1024x7168, .f32⟩
  | .hbm, ⟨26, _⟩ => ⟨S6x64x16x7168, .f32⟩
  | .hbm, ⟨27, _⟩ => ⟨S6x64x7168x16, .f32⟩
  | .hbm, ⟨28, _⟩ => ⟨S7168x6x64x16, .f32⟩
  | .hbm, ⟨29, _⟩ => ⟨S7168x6x64x16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S8x128, .f32⟩
  | _, _ => ⟨S6x1024x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== DyAmax.lean ====
abbrev S6x1024x18432 : Shape := ⟨3, ![6, 1024, 18432]⟩
abbrev S16 : Shape := ⟨1, ![16]⟩
abbrev S6144x18432 : Shape := ⟨2, ![6144, 18432]⟩
abbrev S8x128 : Shape := ⟨2, ![8, 128]⟩
abbrev S3072x128 : Shape := ⟨2, ![3072, 128]⟩
abbrev S1 : Shape := ⟨1, ![1]⟩
abbrev S1536x128 : Shape := ⟨2, ![1536, 128]⟩
abbrev S64x128 : Shape := ⟨2, ![64, 128]⟩
abbrev S1536x2x128 : Shape := ⟨3, ![1536, 2, 128]⟩
abbrev S8x2x128 : Shape := ⟨3, ![8, 2, 128]⟩
abbrev S8x1x128 : Shape := ⟨3, ![8, 1, 128]⟩
abbrev S1x8x128 : Shape := ⟨3, ![1, 8, 128]⟩
abbrev S1x1x1 : Shape := ⟨3, ![1, 1, 1]⟩

abbrev nBuf : Space → Nat
  | .hbm => 4
  | .vmem => 4
  | .smem => 1
  | _ => 0

abbrev bufTy : (tb : Table) → Fin (tcTables nBuf tb) → BufTy
  | .hbm, ⟨0, _⟩ => ⟨S6x1024x18432, .bf16⟩
  | .hbm, ⟨1, _⟩ => ⟨S16, .f32⟩
  | .hbm, ⟨2, _⟩ => ⟨S6144x18432, .bf16⟩
  | .hbm, ⟨3, _⟩ => ⟨S8x128, .f32⟩
  | .local _ .vmem, ⟨0, _⟩ => ⟨S3072x128, .bf16⟩
  | .local _ .vmem, ⟨1, _⟩ => ⟨S3072x128, .bf16⟩
  | .local _ .vmem, ⟨2, _⟩ => ⟨S8x128, .f32⟩
  | .local _ .vmem, ⟨3, _⟩ => ⟨S8x128, .f32⟩
  | .local _ .smem, ⟨0, _⟩ => ⟨S16, .f32⟩
  | _, _ => ⟨S6x1024x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_scratch0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [BitOps F]

abbrev grid0 : Pipeline.Grid := ⟨2, ![2, 144], ![false, false]⟩

@[reducible] def k0_t1_loop : Scf.Loop 32 :=
  let c0_i32_3 : BitVec 32 := 0#32
  let c24_i32 : BitVec 32 := 24#32
  let v22 : BitVec 32 := Scalar.addi c0_i32_3 c24_i32
  let c1_i32 : BitVec 32 := 1#32
  ⟨c0_i32_3, v22, c1_i32⟩
def k0_mult1 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32 : BitVec 32 := 64#32
  let v30 : BitVec 32 := Scalar.muli arg6 c64_i32
  v30
def k0_off1 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32 : BitVec 32 := 64#32
  let v30 : BitVec 32 := Scalar.muli arg6 c64_i32
  let v31 : BitVec 32 := v30
  let c0_i32_8 : BitVec 32 := 0#32
  ![v31.toNat, 0, 0]
def k0_mult2 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_11 : BitVec 32 := 64#32
  let v36 : BitVec 32 := Scalar.muli arg6 c64_i32_11
  v36
def k0_off2 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_11 : BitVec 32 := 64#32
  let v36 : BitVec 32 := Scalar.muli arg6 c64_i32_11
  let v37 : BitVec 32 := v36
  let c0_i32_12 : BitVec 32 := 0#32
  ![Nat.add v37.toNat 1, 0, 0]
def k0_mult3 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_15 : BitVec 32 := 64#32
  let v42 : BitVec 32 := Scalar.muli arg6 c64_i32_15
  v42
def k0_off3 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_15 : BitVec 32 := 64#32
  let v42 : BitVec 32 := Scalar.muli arg6 c64_i32_15
  let v43 : BitVec 32 := v42
  let c0_i32_16 : BitVec 32 := 0#32
  ![Nat.add v43.toNat 2, 0, 0]
def k0_mult4 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_19 : BitVec 32 := 64#32
  let v48 : BitVec 32 := Scalar.muli arg6 c64_i32_19
  v48
def k0_off4 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_19 : BitVec 32 := 64#32
  let v48 : BitVec 32 := Scalar.muli arg6 c64_i32_19
  let v49 : BitVec 32 := v48
  let c0_i32_20 : BitVec 32 := 0#32
  ![Nat.add v49.toNat 3, 0, 0]
def k0_mult5 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_23 : BitVec 32 := 64#32
  let v54 : BitVec 32 := Scalar.muli arg6 c64_i32_23
  v54
def k0_off5 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_23 : BitVec 32 := 64#32
  let v54 : BitVec 32 := Scalar.muli arg6 c64_i32_23
  let v55 : BitVec 32 := v54
  let c0_i32_24 : BitVec 32 := 0#32
  ![Nat.add v55.toNat 4, 0, 0]
def k0_mult6 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_27 : BitVec 32 := 64#32
  let v60 : BitVec 32 := Scalar.muli arg6 c64_i32_27
  v60
def k0_off6 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_27 : BitVec 32 := 64#32
  let v60 : BitVec 32 := Scalar.muli arg6 c64_i32_27
  let v61 : BitVec 32 := v60
  let c0_i32_28 : BitVec 32 := 0#32
  ![Nat.add v61.toNat 5, 0, 0]
def k0_mult7 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_31 : BitVec 32 := 64#32
  let v66 : BitVec 32 := Scalar.muli arg6 c64_i32_31
  v66
def k0_off7 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_31 : BitVec 32 := 64#32
  let v66 : BitVec 32 := Scalar.muli arg6 c64_i32_31
  let v67 : BitVec 32 := v66
  let c0_i32_32 : BitVec 32 := 0#32
  ![Nat.add v67.toNat 6, 0, 0]
def k0_mult8 (k0_t1 : Fin k0_t1_loop.trips) : BitVec 32 :=
  let c0_i32_3 : BitVec 32 := 0#32
  let c1_i32 : BitVec 32 := 1#32
  let arg6 : BitVec 32 := Scf.iv c0_i32_3 c1_i32 k0_t1
  let c64_i32_35 : BitVec 32 := 64#32
  let v72 : BitVec 32 := Scalar.muli arg6 c64_i32_35
  v72
def k0_off8 (k0_t1 : Fin k0_t1_loop.trips) : Fin 3 → Nat :=
  let c0_i32_3 : BitVec 32 := 0#32
  let c1_i32 : BitVec 32 := 1#32
  let arg6 : BitVec 32 := Scf.iv c0_i32_3 c1_i32 k0_t1
  let c64_i32_35 : BitVec 32 := 64#32
  let v72 : BitVec 32 := Scalar.muli arg6 c64_i32_35
  let v73 : BitVec 32 := v72
  let c0_i32_36 : BitVec 32 := 0#32
  ![Nat.add v73.toNat 7, 0, 0]
def k0_cond2 (i : grid0.Coords) : BitVec 1 :=
  let arg0 : BitVec 32 := BitVec.ofNat 32 (i 0).val
  let c144_i32 : BitVec 32 := 144#32
  let v0 : BitVec 32 := Scalar.muli arg0 c144_i32
  let arg1 : BitVec 32 := BitVec.ofNat 32 (i 1).val
  let v1 : BitVec 32 := Scalar.addi v0 arg1
  let c287_i32 : BitVec 32 := 287#32
  let v27 : BitVec 1 := Scalar.cmpi .eq v1 c287_i32
  let v28 : BitVec 32 := Scalar.extui v27
  let c0_i32_7 : BitVec 32 := 0#32
  let v29 : BitVec 1 := Scalar.cmpi .ne v28 c0_i32_7
  v29

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3072x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== DyAmaxIdeal.lean ====
abbrev S16x128 : Shape := ⟨2, ![16, 128]⟩
variable {F : FTy → Type} [FloatOps F]
-- ==== DyAmaxRefIdeal.lean ====
abbrev S6x1024x18432 : Shape := ⟨3, ![6, 1024, 18432]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S6x64x16x18432 : Shape := ⟨4, ![6, 64, 16, 18432]⟩
abbrev S6x64x18432x16 : Shape := ⟨4, ![6, 64, 18432, 16]⟩
abbrev S18432x6x64x16 : Shape := ⟨4, ![18432, 6, 64, 16]⟩
abbrev S1 : Shape := ⟨1, ![1]⟩
abbrev S1x1 : Shape := ⟨2, ![1, 1]⟩
abbrev S8x128 : Shape := ⟨2, ![8, 128]⟩

abbrev nBuf : Space → Nat
  | .hbm => 42
  | .vmem => 0
  | .smem => 0
  | _ => 0

abbrev bufTy : (tb : Table) → Fin (tcTables nBuf tb) → BufTy
  | .hbm, ⟨0, _⟩ => ⟨S6x1024x18432, .bf16⟩
  | .hbm, ⟨1, _⟩ => ⟨S16, .f32⟩
  | .hbm, ⟨2, _⟩ => ⟨S16, .i32⟩
  | .hbm, ⟨3, _⟩ => ⟨S16x1, .i32⟩
  | .hbm, ⟨4, _⟩ => ⟨S1x16, .i32⟩
  | .hbm, ⟨5, _⟩ => ⟨S16x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S_, .i32⟩
  | .hbm, ⟨10, _⟩ => ⟨S16x16, .i32⟩
  | .hbm, ⟨11, _⟩ => ⟨S16x16, .i32⟩
  | .hbm, ⟨12, _⟩ => ⟨S_, .i32⟩
  | .hbm, ⟨13, _⟩ => ⟨S16x16, .i32⟩
  | .hbm, ⟨14, _⟩ => ⟨S16x16, .i32⟩
  | .hbm, ⟨15, _⟩ => ⟨S_, .i32⟩
  | .hbm, ⟨16, _⟩ => ⟨S16x16, .i32⟩
  | .hbm, ⟨17, _⟩ => ⟨S16x16, .i32⟩
  | .hbm, ⟨18, _⟩ => ⟨S16x16, .f32⟩
  | .hbm, ⟨19, _⟩ => ⟨S1x16, .f32⟩
  | .hbm, ⟨20, _⟩ => ⟨S16x16, .f32⟩
  | .hbm, ⟨21, _⟩ => ⟨S16x16, .f32⟩
  | .hbm, ⟨22, _⟩ => ⟨S_, .f32⟩
  | .hbm, ⟨23, _⟩ => ⟨S16x16, .f32⟩
  | .hbm, ⟨24, _⟩ => ⟨S16x16, .f32⟩
  | .hbm, ⟨25, _⟩ => ⟨S6x1024x18432, .f32⟩
  | .hbm, ⟨26, _⟩ => ⟨S6x64x16x18432, .f32⟩
  | .hbm, ⟨27, _⟩ => ⟨S6x64x18432x16, .f32⟩
  | .hbm, ⟨28, _⟩ => ⟨S18432x6x64x16, .f32⟩
  | .hbm, ⟨29, _⟩ => ⟨S18432x6x64x16, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .i1⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S1x1, .f32⟩
  | .hbm, ⟨41, _⟩ => ⟨S8x128, .f32⟩
  | _, _ => ⟨S6x1024x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_cst_5 : Ref sig .tc := ⟨.hbm, 36, rfl⟩
abbrev main_call0_v0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== XScales.lean ====
abbrev S6x1024x7168 : Shape := ⟨3, ![6, 1024, 7168]⟩
abbrev S16 : Shape := ⟨1, ![16]⟩
abbrev S1 : Shape := ⟨1, ![1]⟩
abbrev S1x1 : Shape := ⟨2, ![1, 1]⟩
abbrev S8x128 : Shape := ⟨2, ![8, 128]⟩
abbrev S6144x7168 : Shape := ⟨2, ![6144, 7168]⟩
abbrev S6x7168x512 : Shape := ⟨3, ![6, 7168, 512]⟩
abbrev S6x64x7168 : Shape := ⟨3, ![6, 64, 7168]⟩
abbrev S1024x128 : Shape := ⟨2, ![1024, 128]⟩
abbrev S1x128x512 : Shape := ⟨3, ![1, 128, 512]⟩
abbrev S1x64x128 : Shape := ⟨3, ![1, 64, 128]⟩
abbrev S16x8x128 : Shape := ⟨3, ![16, 8, 128]⟩
abbrev S128x128 : Shape := ⟨2, ![128, 128]⟩
abbrev S512x128 : Shape := ⟨2, ![512, 128]⟩
abbrev S64x128 : Shape := ⟨2, ![64, 128]⟩
abbrev S512x2x128 : Shape := ⟨3, ![512, 2, 128]⟩
abbrev S8x2x128 : Shape := ⟨3, ![8, 2, 128]⟩
abbrev S8x1x128 : Shape := ⟨3, ![8, 1, 128]⟩
abbrev S16x128 : Shape := ⟨2, ![16, 128]⟩
abbrev S1x8x128 : Shape := ⟨3, ![1, 8, 128]⟩
abbrev S1x128x128 : Shape := ⟨3, ![1, 128, 128]⟩

abbrev nBuf : Space → Nat
  | .hbm => 9
  | .vmem => 11
  | .smem => 1
  | _ => 0

abbrev bufTy : (tb : Table) → Fin (tcTables nBuf tb) → BufTy
  | .hbm, ⟨0, _⟩ => ⟨S6x1024x7168, .bf16⟩
  | .hbm, ⟨1, _⟩ => ⟨S16, .f32⟩
  | .hbm, ⟨2, _⟩ => ⟨S1, .f32⟩
  | .hbm, ⟨3, _⟩ => ⟨S1x1, .f32⟩
  | .hbm, ⟨4, _⟩ => ⟨S8x128, .f32⟩
  | .hbm, ⟨5, _⟩ => ⟨S6144x7168, .bf16⟩
  | .hbm, ⟨6, _⟩ => ⟨S6144x7168, .bf16⟩
  | .hbm, ⟨7, _⟩ => ⟨S6x7168x512, .i8⟩
  | .hbm, ⟨8, _⟩ => ⟨S6x64x7168, .fp8e4m3⟩
  | .local _ .vmem, ⟨0, _⟩ => ⟨S8x128, .f32⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1x128x512, .i8⟩
  | .local _ .vmem, ⟨6, _⟩ => ⟨S1x128x512, .i8⟩
  | .local _ .vmem, ⟨7, _⟩ => ⟨S1x64x128, .fp8e4m3⟩
  | .local _ .vmem, ⟨8, _⟩ => ⟨S1x64x128, .fp8e4m3⟩
  | .local _ .vmem, ⟨9, _⟩ => ⟨S16x8x128, .i32⟩
  | .local _ .vmem, ⟨10, _⟩ => ⟨S128x128, .i32⟩
  | .local _ .smem, ⟨0, _⟩ => ⟨S16, .f32⟩
  | _, _ => ⟨S6x1024x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨2, ![6, 56], ![false, false]⟩

def k0_mult1 : BitVec 32 :=
  let c0_i32 : BitVec 32 := 0#32
  c0_i32
def k0_mult2 : BitVec 32 :=
  let c0_i32_5 : BitVec 32 := 0#32
  c0_i32_5
def k0_mult3 : BitVec 32 :=
  let c0_i32_9 : BitVec 32 := 0#32
  c0_i32_9
def k0_mult4 : BitVec 32 :=
  let c0_i32_13 : BitVec 32 := 0#32
  c0_i32_13
def k0_mult5 : BitVec 32 :=
  let c0_i32_17 : BitVec 32 := 0#32
  c0_i32_17
def k0_mult6 : BitVec 32 :=
  let c0_i32_21 : BitVec 32 := 0#32
  c0_i32_21
def k0_mult7 : BitVec 32 :=
  let c0_i32_25 : BitVec 32 := 0#32
  c0_i32_25
def k0_mult8 : BitVec 32 :=
  let c0_i32_29 : BitVec 32 := 0#32
  c0_i32_29
def k0_mult9 : BitVec 32 :=
  let c64_i32 : BitVec 32 := 64#32
  c64_i32
def k0_mult10 : BitVec 32 :=
  let c64_i32_321 : BitVec 32 := 64#32
  c64_i32_321
def k0_mult11 : BitVec 32 :=
  let c64_i32_325 : BitVec 32 := 64#32
  c64_i32_325
def k0_mult12 : BitVec 32 :=
  let c64_i32_329 : BitVec 32 := 64#32
  c64_i32_329
def k0_mult13 : BitVec 32 :=
  let c64_i32_333 : BitVec 32 := 64#32
  c64_i32_333
def k0_mult14 : BitVec 32 :=
  let c64_i32_337 : BitVec 32 := 64#32
  c64_i32_337
def k0_mult15 : BitVec 32 :=
  let c64_i32_341 : BitVec 32 := 64#32
  c64_i32_341
def k0_mult16 : BitVec 32 :=
  let c64_i32_345 : BitVec 32 := 64#32
  c64_i32_345
def k0_mult17 : BitVec 32 :=
  let c128_i32 : BitVec 32 := 128#32
  c128_i32
def k0_mult18 : BitVec 32 :=
  let c128_i32_641 : BitVec 32 := 128#32
  c128_i32_641
def k0_mult19 : BitVec 32 :=
  let c128_i32_645 : BitVec 32 := 128#32
  c128_i32_645
def k0_mult20 : BitVec 32 :=
  let c128_i32_649 : BitVec 32 := 128#32
  c128_i32_649
def k0_mult21 : BitVec 32 :=
  let c128_i32_653 : BitVec 32 := 128#32
  c128_i32_653
def k0_mult22 : BitVec 32 :=
  let c128_i32_657 : BitVec 32 := 128#32
  c128_i32_657
def k0_mult23 : BitVec 32 :=
  let c128_i32_661 : BitVec 32 := 128#32
  c128_i32_661
def k0_mult24 : BitVec 32 :=
  let c128_i32_665 : BitVec 32 := 128#32
  c128_i32_665
def k0_mult25 : BitVec 32 :=
  let c192_i32 : BitVec 32 := 192#32
  c192_i32
def k0_mult26 : BitVec 32 :=
  let c192_i32_983 : BitVec 32 := 192#32
  c192_i32_983
def k0_mult27 : BitVec 32 :=
  let c192_i32_987 : BitVec 32 := 192#32
  c192_i32_987
def k0_mult28 : BitVec 32 :=
  let c192_i32_991 : BitVec 32 := 192#32
  c192_i32_991
def k0_mult29 : BitVec 32 :=
  let c192_i32_995 : BitVec 32 := 192#32
  c192_i32_995
def k0_mult30 : BitVec 32 :=
  let c192_i32_999 : BitVec 32 := 192#32
  c192_i32_999
def k0_mult31 : BitVec 32 :=
  let c192_i32_1003 : BitVec 32 := 192#32
  c192_i32_1003
def k0_mult32 : BitVec 32 :=
  let c192_i32_1007 : BitVec 32 := 192#32
  c192_i32_1007
def k0_mult33 : BitVec 32 :=
  let c256_i32 : BitVec 32 := 256#32
  c256_i32
def k0_mult34 : BitVec 32 :=
  let c256_i32_1327 : BitVec 32 := 256#32
  c256_i32_1327
def k0_mult35 : BitVec 32 :=
  let c256_i32_1331 : BitVec 32 := 256#32
  c256_i32_1331
def k0_mult36 : BitVec 32 :=
  let c256_i32_1335 : BitVec 32 := 256#32
  c256_i32_1335
def k0_mult37 : BitVec 32 :=
  let c256_i32_1339 : BitVec 32 := 256#32
  c256_i32_1339
def k0_mult38 : BitVec 32 :=
  let c256_i32_1343 : BitVec 32 := 256#32
  c256_i32_1343
def k0_mult39 : BitVec 32 :=
  let c256_i32_1347 : BitVec 32 := 256#32
  c256_i32_1347
def k0_mult40 : BitVec 32 :=
  let c256_i32_1351 : BitVec 32 := 256#32
  c256_i32_1351
def k0_mult41 : BitVec 32 :=
  let c320_i32 : BitVec 32 := 320#32
  c320_i32
def k0_mult42 : BitVec 32 :=
  let c320_i32_1670 : BitVec 32 := 320#32
  c320_i32_1670
def k0_mult43 : BitVec 32 :=
  let c320_i32_1674 : BitVec 32 := 320#32
  c320_i32_1674
def k0_mult44 : BitVec 32 :=
  let c320_i32_1678 : BitVec 32 := 320#32
  c320_i32_1678
def k0_mult45 : BitVec 32 :=
  let c320_i32_1682 : BitVec 32 := 320#32
  c320_i32_1682
def k0_mult46 : BitVec 32 :=
  let c320_i32_1686 : BitVec 32 := 320#32
  c320_i32_1686
def k0_mult47 : BitVec 32 :=
  let c320_i32_1690 : BitVec 32 := 320#32
  c320_i32_1690
def k0_mult48 : BitVec 32 :=
  let c320_i32_1694 : BitVec 32 := 320#32
  c320_i32_1694
def k0_mult49 : BitVec 32 :=
  let c384_i32 : BitVec 32 := 384#32
  c384_i32
def k0_mult50 : BitVec 32 :=
  let c384_i32_2014 : BitVec 32 := 384#32
  c384_i32_2014
def k0_mult51 : BitVec 32 :=
  let c384_i32_2018 : BitVec 32 := 384#32
  c384_i32_2018
def k0_mult52 : BitVec 32 :=
  let c384_i32_2022 : BitVec 32 := 384#32
  c384_i32_2022
def k0_mult53 : BitVec 32 :=
  let c384_i32_2026 : BitVec 32 := 384#32
  c384_i32_2026
def k0_mult54 : BitVec 32 :=
  let c384_i32_2030 : BitVec 32 := 384#32
  c384_i32_2030
def k0_mult55 : BitVec 32 :=
  let c384_i32_2034 : BitVec 32 := 384#32
  c384_i32_2034
def k0_mult56 : BitVec 32 :=
  let c384_i32_2038 : BitVec 32 := 384#32
  c384_i32_2038
def k0_mult57 : BitVec 32 :=
  let c448_i32 : BitVec 32 := 448#32
  c448_i32
def k0_mult58 : BitVec 32 :=
  let c448_i32_2384 : BitVec 32 := 448#32
  c448_i32_2384
def k0_mult59 : BitVec 32 :=
  let c448_i32_2388 : BitVec 32 := 448#32
  c448_i32_2388
def k0_mult60 : BitVec 32 :=
  let c448_i32_2392 : BitVec 32 := 448#32
  c448_i32_2392
def k0_mult61 : BitVec 32 :=
  let c448_i32_2396 : BitVec 32 := 448#32
  c448_i32_2396
def k0_mult62 : BitVec 32 :=
  let c448_i32_2400 : BitVec 32 := 448#32
  c448_i32_2400
def k0_mult63 : BitVec 32 :=
  let c448_i32_2404 : BitVec 32 := 448#32
  c448_i32_2404
def k0_mult64 : BitVec 32 :=
  let c448_i32_2408 : BitVec 32 := 448#32
  c448_i32_2408
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XScalesIdeal.lean ====
variable {F : FTy → Type} [FloatOps F]
-- ==== XScalesRefIdeal.lean ====
abbrev S6x1024x7168 : Shape := ⟨3, ![6, 1024, 7168]⟩
abbrev S16 : Shape := ⟨1, ![16]⟩
abbrev S1 : Shape := ⟨1, ![1]⟩
abbrev S16x1 : Shape := ⟨2, ![16, 1]⟩
abbrev S1x16 : Shape := ⟨2, ![1, 16]⟩
abbrev S16x16 : Shape := ⟨2, ![16, 16]⟩
abbrev S_ : Shape := ⟨0, ![]⟩
abbrev S6x64x16x7168 : Shape := ⟨4, ![6, 64, 16, 7168]⟩
abbrev S6x64x7168x16 : Shape := ⟨4, ![6, 64, 7168, 16]⟩
abbrev S7168x6x64x16 : Shape := ⟨4, ![7168, 6, 64, 16]⟩
abbrev S7168x6x64 : Shape := ⟨3, ![7168, 6, 64]⟩
abbrev S1x1x1 : Shape := ⟨3, ![1, 1, 1]⟩
abbrev S6x64x7168 : Shape := ⟨3, ![6, 64, 7168]⟩

abbrev nBuf : Space → Nat
  | .hbm => 49
  | .vmem => 0
  | .smem => 0
  | _ => 0

abbrev bufTy : (tb : Table) → Fin (tcTables nBuf tb) → BufTy
  | .hbm, ⟨0, _⟩ => ⟨S6x1024x7168, .bf16⟩
  | .hbm, ⟨1, _⟩ => ⟨S16, .f32⟩
  | .hbm, ⟨2, _⟩ => ⟨S1, .f32⟩
  | .hbm, ⟨3, _⟩ => ⟨S16, .i32⟩
  | .hbm, ⟨4, _⟩ => ⟨S16x1, .i32⟩
  | .hbm, ⟨5, _⟩ => ⟨S1x16, .i32⟩
  | .hbm, ⟨6, _⟩ => ⟨S16x16, .i32⟩
  | .hbm, ⟨7, _⟩ => ⟨S16x16, .i32⟩
  | .hbm, ⟨8, _⟩ => ⟨S16x16, .i32⟩
  | .hbm, ⟨9, _⟩ => ⟨S16x16, .i32⟩
  | .hbm, ⟨10, _⟩ => ⟨S_, .i32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S_, .i32⟩
  | .hbm, ⟨17, _⟩ => ⟨S16x16, .i32⟩
  | .hbm, ⟨18, _⟩ => ⟨S16x16, .i32⟩
  | .hbm, ⟨19, _⟩ => ⟨S16x16, .f32⟩
  | .hbm, ⟨20, _⟩ => ⟨S1x16, .f32⟩
  | .hbm, ⟨21, _⟩ => ⟨S16x16, .f32⟩
  | .hbm, ⟨22, _⟩ => ⟨S16x16, .f32⟩
  | .hbm, ⟨23, _⟩ => ⟨S_, .f32⟩
  | .hbm, ⟨24, _⟩ => ⟨S16x16, .f32⟩
  | .hbm, ⟨25, _⟩ => ⟨S16x16, .f32⟩
  | .hbm, ⟨26, _⟩ => ⟨S6x1024x7168, .f32⟩
  | .hbm, ⟨27, _⟩ => ⟨S6x64x16x7168, .f32⟩
  | .hbm, ⟨28, _⟩ => ⟨S6x64x7168x16, .f32⟩
  | .hbm, ⟨29, _⟩ => ⟨S7168x6x64x16, .f32⟩
  | .hbm, ⟨30, _⟩ => ⟨S7168x6x64x16, .f32⟩
  | .hbm, ⟨31, _⟩ => ⟨S_, .f32⟩
  | .hbm, ⟨32, _⟩ => ⟨S7168x6x64, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S1x1x1, .f32⟩
  | .hbm, ⟨37, _⟩ => ⟨S7168x6x64, .f32⟩
  | .hbm, ⟨38, _⟩ => ⟨S7168x6x64, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S7168x6x64, .f32⟩
  | .hbm, ⟨43, _⟩ => ⟨S7168x6x64, .f32⟩
  | .hbm, ⟨44, _⟩ => ⟨S_, .f32⟩
  | .hbm, ⟨45, _⟩ => ⟨S7168x6x64, .f32⟩
  | .hbm, ⟨46, _⟩ => ⟨S7168x6x64, .f32⟩
  | .hbm, ⟨47, _⟩ => ⟨S7168x6x64, .fp8e4m3⟩
  | .hbm, ⟨48, _⟩ => ⟨S6x64x7168, .fp8e4m3⟩
  | _, _ => ⟨S6x1024x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== Proof.DwValue.lean ====
/-
  What the blocked product leaves in its result array over the extended reals: every block that a grid point writes
  back is a block of one whole-array function, the full product over the tokens times the product of the two tensor
  scales; the blocks tile the array.
-/
module

public import proofs.«01_k».proof.Defs
public import proofs.«01_k».proof.Proof.Gen.DwIdeal.Value
public import proofs.«01_k».proof.Proof.Gen.DwRefIdeal.Run
public import proofs.«01_k».proof.Proof.Gen.DwRefIdeal.Read
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DwIdeal.RefValue

open Cert.DwIdeal Cert.DwIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The whole product: `dW[e, d] = (∑ t, dy[e, t] · x[t, d]) · (s_x · s_dy)`. -/
def G (a0 a1 : S8x128.Idx → EReal) (a2 : S18432x6144.Idx → EReal) (a3 : S6144x7168.Idx → EReal) (i : S18432x7168.Idx) : EReal :=
  (∑ k : Fin 6144, a2 (ix2 (i 0) k) * a3 (ix2 k (i 1))) * (a0 (ix2 0 0) * a1 (ix2 0 0))

/-- The body's payload at an index: one block of the product. -/
theorem pay_apply (v0 v1 : Vec Ideal S8x128 .f32) (v4 : Vec Ideal S1024x6144 .bf16) (v5 : Vec Ideal S6144x512 .bf16)
    (a : Fin 1024) (b : Fin 512) :
    k0_pay1 (F := Ideal) v0 v1 v4 v5 (ix2 a b)
      = (∑ k : Fin 6144, (v4 (ix2 a k) : EReal) * (v5 (ix2 k b) : EReal)) * ((v0 (ix2 0 0) : EReal) * (v1 (ix2 0 0) : EReal)) := by
  pointwise [k0_pay1]

/-- The index maps in closed form. -/
theorem idx_facts : ∀ t : Fin cfg0.N,
    win0_0.index t 0 = 0 ∧ win0_0.index t 1 = 0 ∧ win0_1.index t 0 = 0 ∧ win0_1.index t 1 = 0
    ∧ win0_2.index t 0 = t.val / 14 ∧ win0_2.index t 1 = 0
    ∧ win0_3.index t 0 = 0 ∧ win0_3.index t 1 = t.val % 14
    ∧ win0_4.index t 0 = t.val / 14 ∧ win0_4.index t 1 = t.val % 14 :=
  (by decide +kernel : ∀ t : Fin grid0.N, _)

theorem flushed_eq (c : Dev nD) (t : Fin cfg0.N) :
    (dats m 0 c).flushed 4 t = ((cfg0.win 4).blk t).view.read (Elt Ideal)
      (G (m ((c : Thread nD τ).loc main_arg0)) (m ((c : Thread nD τ).loc main_arg1))
        (m ((c : Thread nD τ).loc main_arg2)) (m ((c : Thread nD τ).loc main_arg3))) := by
  rw [Value.flushed4]
  unfold out0_4
  rw [View.canon_unit_zero hz, View.ld_unit_zero hz, View.ld_unit_zero hz, View.ld_unit_zero hz, View.ld_unit_zero hz]
  funext j
  obtain ⟨h00, h01, h10, h11, h20, h21, h30, h31, h40, h41⟩ := idx_facts t
  idx_vars j
  have ht : t.val < 252 := lt_of_lt_of_eq t.isLt N_0
  have hj0 : j0.val < 1024 := j0.isLt
  have hj1 : j1.val < 512 := j1.isLt
  have b0 : t.val / 14 * 1024 + j0.val < 18432 := by omega
  have b1 : t.val % 14 * 512 + j1.val < 7168 := by omega
  show k0_pay1 (F := Ideal) (iblk m c 0 t) (iblk m c 1 t) (iblk m c 2 t) (iblk m c 3 t) (ix2 j0 j1)
    = G _ _ _ _ (((cfg0.win 4).blk t).view.emb (ix2 j0 j1))
  have e4 : ((cfg0.win 4).blk t).view.emb (ix2 j0 j1)
      = (ix2 (⟨t.val / 14 * 1024 + j0.val, b0⟩ : Fin 18432) (⟨t.val % 14 * 512 + j1.val, b1⟩ : Fin 7168) : S18432x7168.Idx) :=
    Shape.idx_ext₂ (show win0_4.index t 0 * 1024 + 1 * j0.val = _ by rw [h40]; simp)
      (show win0_4.index t 1 * 512 + 1 * j1.val = _ by rw [h41]; simp)
  rw [e4, pay_apply]
  have e0 : (iblk m c 0 t : Vec Ideal S8x128 .f32) (ix2 0 0) = m ((c : Thread nD τ).loc main_arg0) (ix2 0 0) := by
    show m ((c : Thread nD τ).loc main_arg0) (((cfg0.win 0).blk t).view.emb (ix2 0 0)) = _
    congr 1
    exact Shape.idx_ext₂ (show win0_0.index t 0 * 8 + 1 * 0 = 0 by rw [h00])
      (show win0_0.index t 1 * 128 + 1 * 0 = 0 by rw [h01])
  have e1 : (iblk m c 1 t : Vec Ideal S8x128 .f32) (ix2 0 0) = m ((c : Thread nD τ).loc main_arg1) (ix2 0 0) := by
    show m ((c : Thread nD τ).loc main_arg1) (((cfg0.win 1).blk t).view.emb (ix2 0 0)) = _
    congr 1
    exact Shape.idx_ext₂ (show win0_1.index t 0 * 8 + 1 * 0 = 0 by rw [h10])
      (show win0_1.index t 1 * 128 + 1 * 0 = 0 by rw [h11])
  have e2 : ∀ k : Fin 6144, (iblk m c 2 t : Vec Ideal S1024x6144 .bf16) (ix2 j0 k)
      = m ((c : Thread nD τ).loc main_arg2) (ix2 (⟨t.val / 14 * 1024 + j0.val, b0⟩ : Fin 18432) k) := by
    intro k
    show m ((c : Thread nD τ).loc main_arg2) (((cfg0.win 2).blk t).view.emb (ix2 j0 k)) = _
    congr 1
    exact Shape.idx_ext₂ (show win0_2.index t 0 * 1024 + 1 * j0.val = t.val / 14 * 1024 + j0.val by rw [h20]; simp)
      (show win0_2.index t 1 * 6144 + 1 * k.val = k.val by rw [h21]; simp)
  have e3 : ∀ k : Fin 6144, (iblk m c 3 t : Vec Ideal S6144x512 .bf16) (ix2 k j1)
      = m ((c : Thread nD τ).loc main_arg3) (ix2 k (⟨t.val % 14 * 512 + j1.val, b1⟩ : Fin 7168)) := by
    intro k
    show m ((c : Thread nD τ).loc main_arg3) (((cfg0.win 3).blk t).view.emb (ix2 k j1)) = _
    congr 1
    exact Shape.idx_ext₂ (show win0_3.index t 0 * 6144 + 1 * k.val = k.val by rw [h30]; simp)
      (show win0_3.index t 1 * 512 + 1 * j1.val = t.val % 14 * 512 + j1.val by rw [h31]; simp)
  simp only [e0, e1, e2, e3]
  rfl

/-- An index of the result array is in point `t`'s block. -/
theorem mem_blk (t : Fin cfg0.N) (i : S18432x7168.Idx) :
    i ∈ ((cfg0.win 4).blk t).view.set ↔
      (t.val / 14 * 1024 ≤ (i 0 : Nat) ∧ (i 0 : Nat) < t.val / 14 * 1024 + 1024)
      ∧ (t.val % 14 * 512 ≤ (i 1 : Nat) ∧ (i 1 : Nat) < t.val % 14 * 512 + 512) := by
  obtain ⟨h00, h01, h10, h11, h20, h21, h30, h31, h40, h41⟩ := idx_facts t
  show i ∈ ((View.whole main_v0).slice (win0_4.rect t)).set ↔ _
  rw [View.set_slice_whole, Rect.mem_set_unit]
  refine ⟨fun h => ?_, fun h a => ?_⟩
  · have q0 : win0_4.index t 0 * 1024 ≤ (i 0 : Nat) ∧ (i 0 : Nat) < win0_4.index t 0 * 1024 + 1024 := h 0
    have q1 : win0_4.index t 1 * 512 ≤ (i 1 : Nat) ∧ (i 1 : Nat) < win0_4.index t 1 * 512 + 512 := h 1
    rw [h40] at q0; rw [h41] at q1; exact ⟨q0, q1⟩
  · match a with
    | ⟨0, _⟩ => show win0_4.index t 0 * 1024 ≤ (i 0 : Nat) ∧ (i 0 : Nat) < win0_4.index t 0 * 1024 + 1024
                rw [h40]; exact h.1
    | ⟨1, _⟩ => show win0_4.index t 1 * 512 ≤ (i 1 : Nat) ∧ (i 1 : Nat) < win0_4.index t 1 * 512 + 512
                rw [h41]; exact h.2

/-- The blocks tile the result array. -/
theorem cover (i : S18432x7168.Idx) :
    ∃ t : Fin cfg0.N, (cfg0.win 4).flush t = true ∧ i ∈ ((cfg0.win 4).blk t).view.set := by
  have h0 : (i 0 : Nat) < 18432 := (i 0).isLt
  have h1 : (i 1 : Nat) < 7168 := (i 1).isLt
  refine ⟨⟨(i 0 : Nat) / 1024 * 14 + (i 1 : Nat) / 512, by show _ < grid0.N; rw [N_0]; omega⟩, flush0_4 _, ?_⟩
  rw [mem_blk]
  dsimp only
  omega

/-- The result array after the run is the whole product. -/
theorem final (c : Dev nD) : (dats m 0 c).arrAt 4 cfg0.N
    = G (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed_eq m c t) cover

end Cert.DwIdeal.RefValue

namespace Cert.DwRefIdeal.RefValue

open Cert.DwRefIdeal Cert.DwRefIdeal.Gen

/-- The reference's composed term is the same whole product. -/
theorem ref_eq (x0 x1 : (⟨S8x128, .f32⟩ : BufTy).Contents (Elt Ideal)) (x2 : (⟨S18432x6144, .bf16⟩ : BufTy).Contents (Elt Ideal))
    (x3 : (⟨S6144x7168, .bf16⟩ : BufTy).Contents (Elt Ideal)) :
    Read.val_main_v5 (F := Ideal) x0 x1 x2 x3 = Cert.DwIdeal.RefValue.G x0 x1 x2 x3 := by
  funext i
  idx_vars i
  rw [Read.val_main_v5_apply, Read.val_main_v0_apply, Read.val_main_v4_apply, Read.val_main_v3_apply,
    Read.val_main_v1_apply, Read.val_main_v2_apply]
  have el : ∀ k, Read.lidx_main_v0 (ix2 i0 i1) k = ix2 i0 k := fun k => Shape.idx_ext₂ rfl rfl
  have er : ∀ k, Read.ridx_main_v0 (ix2 i0 i1) k = ix2 k i1 := fun k => Shape.idx_ext₂ rfl rfl
  have e1 : Read.idx_main_v1 (Read.idx_main_v4 (ix2 i0 i1)) = ix2 0 0 := Shape.idx_ext₂ rfl rfl
  have e2 : Read.idx_main_v2 (Read.idx_main_v4 (ix2 i0 i1)) = ix2 0 0 := Shape.idx_ext₂ rfl rfl
  simp only [el, er, e1, e2]
  rfl

end Cert.DwRefIdeal.RefValue

end
-- ==== Proof.AmaxBody.lean ====
/- The body of the search for the largest absolute value, as the calls `x_amax` and `dy_amax` share it, over any arithmetic and any table of buffers: what one trip of its loop, its whole loop and one grid point leave. -/
module

public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.WordCmp
public import Idealize.ShloMosaic.Lib.Pointwise
public import Idealize.ShloMosaic.Lib.VecWindow

@[expose] public section

set_option maxRecDepth 16384

noncomputable section

namespace Cert.Amax

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

abbrev S1 : Shape := ⟨1, ![1]⟩
abbrev S16 : Shape := ⟨1, ![16]⟩
abbrev S8x128 : Shape := ⟨2, ![8, 128]⟩
abbrev S3072x128 : Shape := ⟨2, ![3072, 128]⟩
abbrev S1536x2x128 : Shape := ⟨3, ![1536, 2, 128]⟩
abbrev S8x2x128 : Shape := ⟨3, ![8, 2, 128]⟩

variable {nD : ℕ} {τ : Topo} {sig : RefSig} {Λ : Labels} {F : FTy → Type}

local notation "𝕄" => MT nD τ sig Unit (Elt F) ℕ (UR sig nD τ) ℕ

theorem pos_S8x2x128 : 0 < S8x2x128.numel := by decide

/-! ## The body -/

/-- What a trip computes: of the sixteen signs, of eight reads of every eighth pair of rows and of the carried value. -/
abbrev Trip (F : FTy → Type) : Type :=
  (s0 s1 s2 s3 s4 s5 s6 s7 s8 s9 s10 s11 s12 s13 s14 s15 : Elt F .f32) → (w0 w1 w2 w3 w4 w5 w6 w7 : Vec F S8x2x128 .bf16) → Vec F S8x128 .f32 → Vec F S8x128 .f32

/-- The bounds of the loop over the units of 128 rows. -/
abbrev loop : Scf.Loop 32 := ⟨0#32, 24#32, 1#32⟩

theorem loop_ok : loop.OK := by decide

/-- Where the reads of a trip start, as pairs of rows. -/
structure Starts where
  off : Fin 8 → Fin loop.trips → Fin 3 → ℕ
  off_eq : ∀ j k, off j k = ![64 * k.val + j.val, 0, 0]
  inb : ∀ j k a, S8x2x128.size a = 0 ∨ off j k a + (![8, 1, 1] : Fin 3 → ℕ) a * (S8x2x128.size a - 1) < S1536x2x128.size a

/-- One trip. -/
def trip (o : Starts) (f : Trip F) (arg3 : Memref sig .tc .vmem S3072x128 .bf16) (harg3 : arg3.IsWhole) (s0 s1 s2 s3 s4 s5 s6 s7 s8 s9 s10 s11 s12 s13 s14 s15 : Elt F .f32) (k : Fin loop.trips) (acc : Vec F S8x128 .f32) :
    Prog (TpuEff nD τ sig (Elt F) Λ .tc) (Vec F S8x128 .f32) := do
  let w0 : Vec F S8x2x128 .bf16 ← Prog.lift (.load (arg3.reshape S1536x2x128 (by decide) (by decide) harg3.contiguous) (⟨o.off 0 k, S8x2x128.size, ![8, 1, 1], o.inb 0 k⟩ : LoadRect S1536x2x128) (View.loadsAt_vmem pos_S8x2x128))
  let w1 : Vec F S8x2x128 .bf16 ← Prog.lift (.load (arg3.reshape S1536x2x128 (by decide) (by decide) harg3.contiguous) (⟨o.off 1 k, S8x2x128.size, ![8, 1, 1], o.inb 1 k⟩ : LoadRect S1536x2x128) (View.loadsAt_vmem pos_S8x2x128))
  let w2 : Vec F S8x2x128 .bf16 ← Prog.lift (.load (arg3.reshape S1536x2x128 (by decide) (by decide) harg3.contiguous) (⟨o.off 2 k, S8x2x128.size, ![8, 1, 1], o.inb 2 k⟩ : LoadRect S1536x2x128) (View.loadsAt_vmem pos_S8x2x128))
  let w3 : Vec F S8x2x128 .bf16 ← Prog.lift (.load (arg3.reshape S1536x2x128 (by decide) (by decide) harg3.contiguous) (⟨o.off 3 k, S8x2x128.size, ![8, 1, 1], o.inb 3 k⟩ : LoadRect S1536x2x128) (View.loadsAt_vmem pos_S8x2x128))
  let w4 : Vec F S8x2x128 .bf16 ← Prog.lift (.load (arg3.reshape S1536x2x128 (by decide) (by decide) harg3.contiguous) (⟨o.off 4 k, S8x2x128.size, ![8, 1, 1], o.inb 4 k⟩ : LoadRect S1536x2x128) (View.loadsAt_vmem pos_S8x2x128))
  let w5 : Vec F S8x2x128 .bf16 ← Prog.lift (.load (arg3.reshape S1536x2x128 (by decide) (by decide) harg3.contiguous) (⟨o.off 5 k, S8x2x128.size, ![8, 1, 1], o.inb 5 k⟩ : LoadRect S1536x2x128) (View.loadsAt_vmem pos_S8x2x128))
  let w6 : Vec F S8x2x128 .bf16 ← Prog.lift (.load (arg3.reshape S1536x2x128 (by decide) (by decide) harg3.contiguous) (⟨o.off 6 k, S8x2x128.size, ![8, 1, 1], o.inb 6 k⟩ : LoadRect S1536x2x128) (View.loadsAt_vmem pos_S8x2x128))
  let w7 : Vec F S8x2x128 .bf16 ← Prog.lift (.load (arg3.reshape S1536x2x128 (by decide) (by decide) harg3.contiguous) (⟨o.off 7 k, S8x2x128.size, ![8, 1, 1], o.inb 7 k⟩ : LoadRect S1536x2x128) (View.loadsAt_vmem pos_S8x2x128))
  pure (f s0 s1 s2 s3 s4 s5 s6 s7 s8 s9 s10 s11 s12 s13 s14 s15 w0 w1 w2 w3 w4 w5 w6 w7 acc)

/-- The first part of a grid point: the scratch starts from `zero` where `c0` is set and takes the block; `c2` is what the part hands on. -/
def head (c0 c2 : BitVec 1) (o : Starts) (f : Trip F) (zero : Vec F S8x128 .f32) (same : Vec F S8x128 .f32 → Vec F S8x128 .f32)
    (arg2 : Memref sig .tc .smem S16 .f32) (harg2 : arg2.IsWhole) (arg3 : Memref sig .tc .vmem S3072x128 .bf16) (harg3 : arg3.IsWhole) (arg4 : Memref sig .tc .vmem S8x128 .f32) (harg4 : arg4.IsWhole) (arg5 : Memref sig .tc .vmem S8x128 .f32) (harg5 : arg5.IsWhole) :
    Prog (TpuEff nD τ sig (Elt F) Λ .tc) (BitVec 1) := do
  if h : c0 = 1#1 then do
    let v : Vec F S8x128 .f32 ← Prog.lift (.load arg5 (Rect.unit (s := S8x128) ![0, 0] S8x128.size (by decide)).toLoadRect (View.loadsAt_vmem (by decide)))
    Prog.lift (.store arg5 (Rect.unit (s := S8x128) ![0, 0] S8x128.size (by decide)) zero Finset.univ (View.stores_vmem_bits_univ (by decide) rfl) (.inl rfl))
    pure ⟨⟩
  else do
    pure ⟨⟩
  let s0 : Elt F .f32 ← smemLoad arg2 (Rect.unit (s := S16) ![0] S1.size (by decide)) (by decide) rfl
  let s1 : Elt F .f32 ← smemLoad arg2 (Rect.unit (s := S16) ![1] S1.size (by decide)) (by decide) rfl
  let s2 : Elt F .f32 ← smemLoad arg2 (Rect.unit (s := S16) ![2] S1.size (by decide)) (by decide) rfl
  let s3 : Elt F .f32 ← smemLoad arg2 (Rect.unit (s := S16) ![3] S1.size (by decide)) (by decide) rfl
  let s4 : Elt F .f32 ← smemLoad arg2 (Rect.unit (s := S16) ![4] S1.size (by decide)) (by decide) rfl
  let s5 : Elt F .f32 ← smemLoad arg2 (Rect.unit (s := S16) ![5] S1.size (by decide)) (by decide) rfl
  let s6 : Elt F .f32 ← smemLoad arg2 (Rect.unit (s := S16) ![6] S1.size (by decide)) (by decide) rfl
  let s7 : Elt F .f32 ← smemLoad arg2 (Rect.unit (s := S16) ![7] S1.size (by decide)) (by decide) rfl
  let s8 : Elt F .f32 ← smemLoad arg2 (Rect.unit (s := S16) ![8] S1.size (by decide)) (by decide) rfl
  let s9 : Elt F .f32 ← smemLoad arg2 (Rect.unit (s := S16) ![9] S1.size (by decide)) (by decide) rfl
  let s10 : Elt F .f32 ← smemLoad arg2 (Rect.unit (s := S16) ![10] S1.size (by decide)) (by decide) rfl
  let s11 : Elt F .f32 ← smemLoad arg2 (Rect.unit (s := S16) ![11] S1.size (by decide)) (by decide) rfl
  let s12 : Elt F .f32 ← smemLoad arg2 (Rect.unit (s := S16) ![12] S1.size (by decide)) (by decide) rfl
  let s13 : Elt F .f32 ← smemLoad arg2 (Rect.unit (s := S16) ![13] S1.size (by decide)) (by decide) rfl
  let s14 : Elt F .f32 ← smemLoad arg2 (Rect.unit (s := S16) ![14] S1.size (by decide)) (by decide) rfl
  let s15 : Elt F .f32 ← smemLoad arg2 (Rect.unit (s := S16) ![15] S1.size (by decide)) (by decide) rfl
  let v21 : Vec F S8x128 .f32 ← Prog.lift (.load arg5 (Rect.unit (s := S8x128) ![0, 0] S8x128.size (by decide)).toLoadRect (View.loadsAt_vmem (by decide)))
  let v23 : Vec F S8x128 .f32 ← Scf.Loop.for loop loop_ok v21 (trip o f arg3 harg3 s0 s1 s2 s3 s4 s5 s6 s7 s8 s9 s10 s11 s12 s13 s14 s15)
  let v24 : Vec F S8x128 .f32 ← Prog.lift (.load arg5 (Rect.unit (s := S8x128) ![0, 0] S8x128.size (by decide)).toLoadRect (View.loadsAt_vmem (by decide)))
  Prog.lift (.store arg5 (Rect.unit (s := S8x128) ![0, 0] S8x128.size (by decide)) (same v23) Finset.univ (View.stores_vmem_bits_univ (by decide) rfl) (.inl rfl))
  pure c2

/-- One grid point: `c0` is set at the first and `c1` at the last; `c2` is handed over between the parts; `zero` is what the scratch starts from, `fin` makes the result of it. -/
def body (c0 c1 c2 : BitVec 1) (o : Starts) (f : Trip F) (zero : Vec F S8x128 .f32) (same fin : Vec F S8x128 .f32 → Vec F S8x128 .f32)
    (arg2 : Memref sig .tc .smem S16 .f32) (harg2 : arg2.IsWhole) (arg3 : Memref sig .tc .vmem S3072x128 .bf16) (harg3 : arg3.IsWhole) (arg4 : Memref sig .tc .vmem S8x128 .f32) (harg4 : arg4.IsWhole) (arg5 : Memref sig .tc .vmem S8x128 .f32) (harg5 : arg5.IsWhole) :
    Prog (TpuEff nD τ sig (Elt F) Λ .tc) PUnit := do
  let v27 : BitVec 1 ← head c0 c2 o f zero same arg2 harg2 arg3 harg3 arg4 harg4 arg5 harg5
  if h : c1 = 1#1 then do
    let v30 : Vec F S8x128 .f32 ← Prog.lift (.load arg5 (Rect.unit (s := S8x128) ![0, 0] S8x128.size (by decide)).toLoadRect (View.loadsAt_vmem (by decide)))
    let v43 : Vec F S8x128 .f32 ← Prog.lift (.load arg4 (Rect.unit (s := S8x128) ![0, 0] S8x128.size (by decide)).toLoadRect (View.loadsAt_vmem (by decide)))
    Prog.lift (.store arg4 (Rect.unit (s := S8x128) ![0, 0] S8x128.size (by decide)) (fin v30) Finset.univ (View.stores_vmem_bits_univ (by decide) rfl) (.inl rfl))
    pure ⟨⟩
  else do
    pure ⟨⟩
  pure ⟨⟩

/-! ## What it reads -/

/-- Row `n`, column `l` of a block. -/
abbrev at2 (x : Vec F S3072x128 .bf16) (n : ℕ) (l : Fin 128) : Elt F .bf16 := x (ix2 (Fin.ofNat 3072 n) l)

/-- Every eighth pair of rows of a block: sublane `a`, half `p` is row `b + 16 * a + (m + p)`. -/
def raw (x : Vec F S3072x128 .bf16) (b m : ℕ) : Vec F S8x2x128 .bf16 := fun j => at2 x (b + 16 * (j 0).val + (m + (j 1).val)) (j 2)

/-- A read of every eighth pair of rows of the block. -/
theorem raw_eq (o : Starts) (arg3 : Memref sig .tc .vmem S3072x128 .bf16) (harg3 : arg3.IsWhole) (x : Vec F S3072x128 .bf16) (j : Fin 8) (k : Fin loop.trips) (h1) (h2) (hr) :
    View.readAt (Elt F) (arg3.reshape S1536x2x128 h1 h2 hr).view (⟨o.off j k, S8x2x128.size, ![8, 1, 1], o.inb j k⟩ : LoadRect S1536x2x128) (harg3.unread x)
      = raw x (128 * k.val) (2 * j.val) := by
  have hk : k.val < 24 := Nat.lt_of_lt_of_le k.isLt (by decide)
  have hj := j.isLt
  funext y; obtain ⟨a, p, l, rfl⟩ : ∃ (a : Fin 8) (p : Fin 2) (l : Fin 128), y = ix3 a p l := ⟨_, _, _, eq_ix3 y⟩
  rw [View.readAt_apply]
  have h : ∀ j, (arg3.reshape S1536x2x128 h1 h2 hr).view.read (Elt F) (harg3.unread x) j
      = arg3.view.read (Elt F) (harg3.unread x) (Shape.reshapeEquiv h1 j) := fun j => rfl
  rw [h, harg3.read_unread]
  refine congrArg x (Shape.reshapeEquiv_eq_of_vals _ _ _ _ _ (rowMajor_val2 _ 128 rfl) (rowMajor_val3 _ 256 128 rfl rfl) ?_)
  have e0 : o.off j k 0 = 64 * k.val + j.val := by rw [o.off_eq]; rfl
  have e1 : o.off j k 1 = 0 := by rw [o.off_eq]; rfl
  have e2 : o.off j k 2 = 0 := by rw [o.off_eq]; rfl
  have h0 := a.isLt; have hp := p.isLt; have hl := l.isLt
  show (128 * k.val + 16 * a.val + (2 * j.val + p.val)) % 3072 * 128 + l.val = (o.off j k 0 + 8 * a.val) * 256 + (o.off j k 1 + 1 * p.val) * 128 + (o.off j k 2 + 1 * l.val)
  rw [e0, e1, e2]
  omega

/-- The carried value before trip `k`, from a block and the signs. -/
def carried (f : Trip F) (s0 s1 s2 s3 s4 s5 s6 s7 s8 s9 s10 s11 s12 s13 s14 s15 : Elt F .f32) (x : Vec F S3072x128 .bf16) (init : Vec F S8x128 .f32) : ℕ → Vec F S8x128 .f32
  | 0 => init
  | k + 1 => f s0 s1 s2 s3 s4 s5 s6 s7 s8 s9 s10 s11 s12 s13 s14 s15 (raw x (128 * k) 0) (raw x (128 * k) 2) (raw x (128 * k) 4) (raw x (128 * k) 6) (raw x (128 * k) 8) (raw x (128 * k) 10) (raw x (128 * k) 12) (raw x (128 * k) 14) (carried f s0 s1 s2 s3 s4 s5 s6 s7 s8 s9 s10 s11 s12 s13 s14 s15 x init k)

/-- The signs as a sequence. -/
abbrev sgn (s : Vec F S16 .f32) (j : ℕ) : Elt F .f32 := s (ix1 (Fin.ofNat 16 j))

/-- A sign, as the body reads it. -/
theorem sign_read (arg2 : Memref sig .tc .smem S16 .f32) (harg2 : arg2.IsWhole) (x0 : Vec F S16 .f32) (j : ℕ) (hj : j < 16) (inb) (h) :
    View.readAt (Elt F) arg2.view (Rect.unit (s := S16) ![j] S1.size inb).toLoadRect (harg2.unread x0) (Shape.Idx.first h) = sgn x0 j := by
  rw [View.readAt_apply, harg2.read_unread]
  refine congrArg x0 (funext fun b => ?_)
  have hb : b = 0 := Subsingleton.elim _ _
  subst hb
  exact Fin.ext (Nat.mod_eq_of_lt hj).symm

/-! ## The run of one grid point -/

variable [∀ e, Nonempty (Elt F e)] (defs : Defs nD τ sig (Elt F) Λ) (𝒱 : Variants)

set_option warn.classDefReducibility false in
/-- The loop by its invariant: before trip `k` the block is as it was and the carried value is `carried … k`. -/
@[sl_loop] def loopInv (c : Dev nD) (E : Set ℕ) (o : Starts) (f : Trip F) (arg3 : Memref sig .tc .vmem S3072x128 .bf16) (harg3 : arg3.IsWhole) (s0 s1 s2 s3 s4 s5 s6 s7 s8 s9 s10 s11 s12 s13 s14 s15 : Elt F .f32) (x : Vec F S3072x128 .bf16) (init : Vec F S8x128 .f32) :
    LoopInv (M := 𝕄) frame (wpE defs Variants.none (c : Thread nD τ) none) E loop.lb loop.ub loop.st loop_ok init (trip (nD := nD) (τ := τ) (Λ := Λ) o f arg3 harg3 s0 s1 s2 s3 s4 s5 s6 s7 s8 s9 s10 s11 s12 s13 s14 s15) where
  inv k acc := iprop((arg3.view.loc (c : Thread nD τ) ↦[arg3.view.set]{fullShare} harg3.unread x) ∗ ⌜acc = carried f s0 s1 s2 s3 s4 s5 s6 s7 s8 s9 s10 s11 s12 s13 s14 s15 x init k⌝)
  step k acc := by
    iintro ⟨HX, %hacc⟩
    subst hacc
    unfold trip
    sl_exec
    sl_step
    isplitl [HX]; · iexact HX
    ipureintro
    have e := fun j h1 h2 hr => raw_eq o arg3 harg3 x j k h1 h2 hr
    rw [show loopInv.sl.w0 o arg3 harg3 x k = raw x (128 * k.val) 0 from e 0 _ _ _, show loopInv.sl.w1 o arg3 harg3 x k = raw x (128 * k.val) 2 from e 1 _ _ _, show loopInv.sl.w2 o arg3 harg3 x k = raw x (128 * k.val) 4 from e 2 _ _ _, show loopInv.sl.w3 o arg3 harg3 x k = raw x (128 * k.val) 6 from e 3 _ _ _, show loopInv.sl.w4 o arg3 harg3 x k = raw x (128 * k.val) 8 from e 4 _ _ _, show loopInv.sl.w5 o arg3 harg3 x k = raw x (128 * k.val) 10 from e 5 _ _ _, show loopInv.sl.w6 o arg3 harg3 x k = raw x (128 * k.val) 12 from e 6 _ _ _, show loopInv.sl.w7 o arg3 harg3 x k = raw x (128 * k.val) 14 from e 7 _ _ _]
    rfl

/-- What one grid point leaves in the scratch buffer, from what was there. -/
def step (f : Trip F) (same : Vec F S8x128 .f32 → Vec F S8x128 .f32) (s : Vec F S16 .f32) (x : Vec F S3072x128 .bf16) (v : Vec F S8x128 .f32) : Vec F S8x128 .f32 :=
  same (carried f (sgn s 0) (sgn s 1) (sgn s 2) (sgn s 3) (sgn s 4) (sgn s 5) (sgn s 6) (sgn s 7) (sgn s 8) (sgn s 9) (sgn s 10) (sgn s 11) (sgn s 12) (sgn s 13) (sgn s 14) (sgn s 15) x v 24)

theorem step_of (f : Trip F) (same : Vec F S8x128 .f32 → Vec F S8x128 .f32) (s : Vec F S16 .f32) (x : Vec F S3072x128 .bf16) {u v : Vec F S8x128 .f32} {s0 s1 s2 s3 s4 s5 s6 s7 s8 s9 s10 s11 s12 s13 s14 s15 : Elt F .f32}
    (hu : u = v) (h0 : s0 = sgn s 0) (h1 : s1 = sgn s 1) (h2 : s2 = sgn s 2) (h3 : s3 = sgn s 3) (h4 : s4 = sgn s 4) (h5 : s5 = sgn s 5) (h6 : s6 = sgn s 6) (h7 : s7 = sgn s 7) (h8 : s8 = sgn s 8) (h9 : s9 = sgn s 9) (h10 : s10 = sgn s 10) (h11 : s11 = sgn s 11) (h12 : s12 = sgn s 12) (h13 : s13 = sgn s 13) (h14 : s14 = sgn s 14) (h15 : s15 = sgn s 15) :
    same (carried f s0 s1 s2 s3 s4 s5 s6 s7 s8 s9 s10 s11 s12 s13 s14 s15 x u (Scf.trips loop.lb loop.ub loop.st)) = step f same s x v := by
  subst hu; subst h0 h1 h2 h3 h4 h5 h6 h7 h8 h9 h10 h11 h12 h13 h14 h15; rfl

set_option maxHeartbeats 4000000 in
/-- One grid point: the signs and the block are only read, the scratch takes a step, and at the last point the result is made of the scratch. -/
theorem body_run (c : Dev nD) (c0 c1 c2 : BitVec 1) (o : Starts) (f : Trip F) (zero : Vec F S8x128 .f32) (same fin : Vec F S8x128 .f32 → Vec F S8x128 .f32)
    (arg2 : Memref sig .tc .smem S16 .f32) (harg2 : arg2.IsWhole) (arg3 : Memref sig .tc .vmem S3072x128 .bf16) (harg3 : arg3.IsWhole) (arg4 : Memref sig .tc .vmem S8x128 .f32) (harg4 : arg4.IsWhole) (arg5 : Memref sig .tc .vmem S8x128 .f32) (harg5 : arg5.IsWhole)
    (x0 : Vec F S16 .f32) (x1 : Vec F S3072x128 .bf16) (d a : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare d ∗ owns (c : Thread nD τ) arg5 fullShare a
        ∗ (iprop(owns (c : Thread nD τ) arg2 fullShare x0 ∗ owns (c : Thread nD τ) arg3 fullShare x1
            ∗ owns (c : Thread nD τ) arg4 fullShare (if c1 = 1#1 then fin (step f same x0 x1 (if c0 = 1#1 then zero else a)) else d)
            ∗ owns (c : Thread nD τ) arg5 fullShare (step f same x0 x1 (if c0 = 1#1 then zero else a))) -∗ K ⟨⟩))
      ⊢ wp frame (wpE defs Variants.none c none) E (body c0 c1 c2 o f zero same fin arg2 harg2 arg3 harg3 arg4 harg4 arg5 harg5) K := by
  have hs := fun j hj inb h => sign_read arg2 harg2 x0 j hj inb h
  by_cases hc0 : c0 = 1#1 <;>
  by_cases hc1 : c1 = 1#1
  all_goals
    first | rw [if_pos hc0] | rw [if_neg hc0]
    first | rw [if_pos hc1] | rw [if_neg hc1]
    unfold body
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg5.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      first
        | exact hf2
        | repeat (first | delta body_run.sl.v30_1 | delta body_run.sl.v30 | delta body_run.sl.HS0_2 | delta body_run.sl.v21_1 | delta body_run.sl.v21 | delta body_run.sl.HS0_1_2 | delta body_run.sl.HS0_1_1 | delta body_run.sl.HS0_1)
          simp -proj only [View.readCov_full, View.read_writes_full, View.readAt_full, View.readAt_writes_full, harg5.read_unread]
          refine congrArg fin (step_of f same x0 x1 rfl ?_ ?_ ?_ ?_ ?_ ?_ ?_ ?_ ?_ ?_ ?_ ?_ ?_ ?_ ?_ ?_) <;> exact hs _ (by decide) _ _
    iexists _; isplitr; swap; · iexact HS0
    ipureintro
    repeat (first | delta body_run.sl.HS0_2 | delta body_run.sl.v21_1 | delta body_run.sl.v21 | delta body_run.sl.HS0_1_2 | delta body_run.sl.HS0_1_1 | delta body_run.sl.HS0_1)
    simp -proj only [View.readCov_full, View.read_writes_full, View.readAt_full, harg5.read_unread]
    refine step_of f same x0 x1 rfl ?_ ?_ ?_ ?_ ?_ ?_ ?_ ?_ ?_ ?_ ?_ ?_ ?_ ?_ ?_ ?_ <;> exact hs _ (by decide) _ _

/-- One grid point as the pipeline runs it: from a scratch buffer of which `v` is where the point starts, with what the point does not touch alongside. -/
theorem point_run (c : Dev nD) (c0 c1 c2 : BitVec 1) (o : Starts) (f : Trip F) (zero : Vec F S8x128 .f32) (same fin : Vec F S8x128 .f32 → Vec F S8x128 .f32)
    (arg2 : Memref sig .tc .smem S16 .f32) (harg2 : arg2.IsWhole) (arg3 : Memref sig .tc .vmem S3072x128 .bf16) (harg3 : arg3.IsWhole) (arg4 : Memref sig .tc .vmem S8x128 .f32) (harg4 : arg4.IsWhole) (arg5 : Memref sig .tc .vmem S8x128 .f32) (harg5 : arg5.IsWhole)
    (x0 : Vec F S16 .f32) (x1 : Vec F S3072x128 .bf16) (v : Vec F S8x128 .f32) {D0 D1 D2 : Type} (b : D2 → Vec F S8x128 .f32) (G O : sProp 𝕄) (E : Set ℕ) :
    iprop(((∃ a, ⌜(if c0 = 1#1 then zero else a) = v⌝ ∗ owns (c : Thread nD τ) arg5 fullShare a) ∗ G) ∗ O
        ∗ (∃ _ : D0, owns (c : Thread nD τ) arg2 fullShare x0) ∗ (∃ _ : D1, owns (c : Thread nD τ) arg3 fullShare x1) ∗ (∃ d, owns (c : Thread nD τ) arg4 fullShare (b d)))
      ⊢ wp frame (wpE defs Variants.none c none) E (body c0 c1 c2 o f zero same fin arg2 harg2 arg3 harg3 arg4 harg4 arg5 harg5) (fun _ =>
        iprop((owns (c : Thread nD τ) arg5 fullShare (step f same x0 x1 v) ∗ G) ∗ O
          ∗ owns (c : Thread nD τ) arg2 fullShare x0 ∗ owns (c : Thread nD τ) arg3 fullShare x1
          ∗ (∃ d, owns (c : Thread nD τ) arg4 fullShare (if c1 = 1#1 then fin (step f same x0 x1 v) else b d)))) := by
  iintro ⟨⟨⟨%a, %ha, HS0⟩, Hg⟩, Ho, ⟨%d0, H0⟩, ⟨%d1, H1⟩, ⟨%d2, H2⟩⟩
  iapply (body_run defs c c0 c1 c2 o f zero same fin _ _ _ _ _ _ _ _ x0 x1 (b d2) a E _)
  isplitl [H0]; · iexact H0
  isplitl [H1]; · iexact H1
  isplitl [H2]; · iexact H2
  isplitl [HS0]; · iexact HS0
  rw [ha]
  iintro ⟨H0, H1, H2, HS0⟩
  isplitl [HS0 Hg]
  · isplitl [HS0]; · iexact HS0
    iexact Hg
  isplitl [Ho]; · iexact Ho
  isplitl [H0]; · iexact H0
  isplitl [H1]; · iexact H1
  iexists _; iexact H2

/-! ## The scratch buffer over the grid -/

/-- What the scratch holds before point `n`: `zero`, then a step for every point before. -/
def acc (f : Trip F) (zero : Vec F S8x128 .f32) (same : Vec F S8x128 .f32 → Vec F S8x128 .f32) {N : ℕ} (s : Fin N → Vec F S16 .f32) (x : Fin N → Vec F S3072x128 .bf16) : ℕ → Vec F S8x128 .f32
  | 0 => zero
  | n + 1 => if h : n < N then step f same (s ⟨n, h⟩) (x ⟨n, h⟩) (acc f zero same s x n) else acc f zero same s x n

theorem acc_succ (f : Trip F) (zero : Vec F S8x128 .f32) (same : Vec F S8x128 .f32 → Vec F S8x128 .f32) {N : ℕ} (s : Fin N → Vec F S16 .f32) (x : Fin N → Vec F S3072x128 .bf16) (t : Fin N) :
    acc f zero same s x (t.val + 1) = step f same (s t) (x t) (acc f zero same s x t.val) := by
  rw [acc.eq_2]; exact dif_pos t.isLt

end Cert.Amax

end
-- ==== Proof.XAmaxFrame.lean ====
/- The frame of the call `x_amax` in bit-exact arithmetic. -/
module

public import proofs.«01_k».proof.Proof.Gen.XAmax.Loops
public import proofs.«01_k».proof.Proof.Gen.XAmax.Frame
public import proofs.«01_k».proof.Proof.AmaxBody

@[expose] public section

set_option maxRecDepth 65536

noncomputable section

namespace Cert.XAmax.Run

open Cert.XAmax.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

/-! ## The body -/

/-- Where a trip's eight reads start. -/
def starts : Amax.Starts where
  off := ![k0_off1, k0_off2, k0_off3, k0_off4, k0_off5, k0_off6, k0_off7, k0_off8]
  off_eq := by decide +kernel
  inb := fun | 0 => k0_off1_inb | 1 => k0_off2_inb | 2 => k0_off3_inb | 3 => k0_off4_inb | 4 => k0_off5_inb | 5 => k0_off6_inb | 6 => k0_off7_inb | 7 => k0_off8_inb

/-- What a trip computes, read off the loop's body. -/
def tripOf : { f : Amax.Trip F // ∀ i arg2 harg2 arg3 harg3 arg4 harg4 arg5 harg5 s0 s1 s2 s3 s4 s5 s6 s7 s8 s9 s10 s11 s12 s13 s14 s15 k acc,
    k0_t1_body (F := F) i arg2 harg2 arg3 harg3 arg4 harg4 arg5 harg5 s0 s1 s2 s3 s4 s5 s6 s7 s8 s9 s10 s11 s12 s13 s14 s15 k acc = Amax.trip starts f arg3 harg3 s0 s1 s2 s3 s4 s5 s6 s7 s8 s9 s10 s11 s12 s13 s14 s15 k acc } :=
  ⟨_, fun _ _ _ _ _ _ _ _ _ _ _ _ _ _ _ _ _ _ _ _ _ _ _ _ _ _ _ => rfl⟩

/-- The condition of the first branch: the grid's first point. -/
abbrev first (i : grid0.Coords) : BitVec 1 :=
  Scalar.cmpi .ne (Scalar.extui (Scalar.cmpi .eq (Scalar.addi (Scalar.muli (BitVec.ofNat 32 (i 0).val) 56#32) (BitVec.ofNat 32 (i 1).val)) 0#32)) 0#32

/-- What the first part hands on: whether the point is the grid's last. -/
abbrev handed (i : grid0.Coords) : BitVec 1 :=
  Scalar.cmpi .eq (Scalar.addi (Scalar.muli (BitVec.ofNat 32 (i 0).val) 56#32) (BitVec.ofNat 32 (i 1).val)) 111#32

/-- The printed body is the shared one. -/
theorem body_eq (i : grid0.Coords) (arg2) (harg2) (arg3) (harg3) (arg4) (harg4) (arg5) (harg5) :
    cc0_x_amax (F := F) i arg2 harg2 arg3 harg3 arg4 harg4 arg5 harg5
      = Amax.body (first i) (k0_cond2 i) (handed i) starts tripOf.1 (k0_pay92 (F := F)) k0_pay95 k0_pay1 arg2 harg2 arg3 harg3 arg4 harg4 arg5 harg5 := rfl

/-! ## The pipeline's proof data: the result's contents are not stated -/

variable (m : (ℓ : Loc nD τ sig) → Buf (Elt F) ℓ) (ρ : Dev nD → PrngReg)

/-- The window of the result: nothing is stated of what it holds. -/
def forgets0 : Fin 3 → Bool := fun w => w.val == 2

/-- The arrays as the region finds them; the inputs' buffers at their blocks after every point; the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The invariant between points, the scratch as a memref at some contents. -/
theorem PhiA0_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

set_option maxHeartbeats 4800000 in
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare d))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t
        ∗ (dats m 0 c).leavesExact 1 t
        ∗ (∃ d, owns (c : Thread nD τ) (st0_2 t) fullShare d))) := by
  unfold bodyAt0
  simp only [before0_0, before0_1]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  rw [body_eq]
  iintro ⟨⟨⟨%a, HS0⟩, Hg⟩, Ho, ⟨%d0, H0⟩, ⟨%d1, H1⟩, ⟨%d2, H2⟩⟩
  iapply (Amax.body_run (defs₀ (F := F)) c (first (grid0.coords t)) (k0_cond2 (grid0.coords t)) (handed (grid0.coords t)) starts tripOf.1 (k0_pay92 (F := F)) k0_pay95 k0_pay1
    _ _ _ _ _ _ _ _ (iblk m c 0 t) (iblk m c 1 t) d2 a Set.univ _)
  isplitl [H0]; · iexact H0
  isplitl [H1]; · iexact H1
  isplitl [H2]; · iexact H2
  isplitl [HS0]; · iexact HS0
  iintro ⟨H0, H1, H2, HS0⟩
  isplitl [HS0 Hg]
  · isplitl [HS0]; · iexists _; iexact HS0
    iexact Hg
  isplitl [Ho]; · iexact Ho
  isplitl [H0]; · iexact H0
  isplitl [H1]; · iexact H1
  iexists _; iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => Idealize.SL.BI.Entails.refl _)

/-- The call runs to the end, its arguments are as they were and its counters are back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       (Pipeline.RDat.FramePost.arr_in h.1 c 0 rfl).trans ((A_eq m c 0).trans (V_main_arg1 m c))⟩, h.2⟩) (run_main m ρ)

end Cert.XAmax.Run

end
-- ==== Proof.Hadamard.lean ====
/- The signed 16-point Walsh–Hadamard transform over the extended reals: the butterflies that compute it, and the sum it is. -/
module

public import Idealize.ShloMosaic.Lib.Pointwise

@[expose] public section

noncomputable section

namespace Cert.Hadamard

/-- One level of butterflies over positions `d` apart: sums at the first of each pair, differences at the second. -/
def butterfly (d : ℕ) (p : ℕ → EReal) (i : ℕ) : EReal := if i / d % 2 = 0 then p i + p (i + d) else p (i - d) - p i

/-- The transform of sixteen entries: four levels of butterflies. -/
def transform (p : ℕ → EReal) : ℕ → EReal := butterfly 8 (butterfly 4 (butterfly 2 (butterfly 1 p)))

/-- A statement about all positions below sixteen, position by position. -/
theorem forall_sixteen (P : ℕ → Prop) : (∀ i : Fin 16, P i.val) ↔
    P 0 ∧ P 1 ∧ P 2 ∧ P 3 ∧ P 4 ∧ P 5 ∧ P 6 ∧ P 7 ∧ P 8 ∧ P 9 ∧ P 10 ∧ P 11 ∧ P 12 ∧ P 13 ∧ P 14 ∧ P 15 := by
  constructor
  · intro h
    exact ⟨h 0, h 1, h 2, h 3, h 4, h 5, h 6, h 7, h 8, h 9, h 10, h 11, h 12, h 13, h 14, h 15⟩
  · rintro ⟨h0, h1, h2, h3, h4, h5, h6, h7, h8, h9, h10, h11, h12, h13, h14, h15⟩ i
    fin_cases i <;> assumption

/-- The absolute value of an extended real. -/
abbrev abs (x : EReal) : EReal := max x (-x)

/-- The largest absolute value of the transform. -/
def peak (p : ℕ → EReal) : EReal := ⨆ i : Fin 16, abs (transform p i.val)

theorem peak_le_iff (p : ℕ → EReal) (z : EReal) : peak p ≤ z ↔ ∀ i : Fin 16, abs (transform p i.val) ≤ z := iSup_le_iff

/-! ## The transform is a sum -/

/-- The entry of the Walsh–Hadamard matrix: the parity of the bits that `i` and `j` have in common. -/
def sign (i j : ℕ) : ℤ := if ((i &&& j) + (i &&& j) / 2 + (i &&& j) / 4 + (i &&& j) / 8) % 2 = 0 then 1 else -1

/-- Neither infinity. -/
def Finite (x : EReal) : Prop := x ≠ ⊤ ∧ x ≠ ⊥

theorem finite_iff (x : EReal) : Finite x ↔ ∃ r : ℝ, x = r := by
  induction x with
  | bot => simp [Finite]
  | top => simp [Finite]
  | coe r => exact ⟨fun _ => ⟨r, rfl⟩, fun _ => ⟨EReal.coe_ne_top r, EReal.coe_ne_bot r⟩⟩

theorem finite_coe (r : ℝ) : Finite (r : EReal) := (finite_iff _).2 ⟨r, rfl⟩

theorem finite_add (x y : EReal) : Finite (x + y) ↔ Finite x ∧ Finite y := by
  induction x <;> induction y <;> simp [Finite, ← EReal.coe_add]

theorem finite_sub (x y : EReal) : Finite (x - y) ↔ Finite x ∧ Finite y := by
  induction x <;> induction y <;> simp [Finite, ← EReal.coe_sub]

/-- A product by a real number other than zero is finite when the other factor is. -/
theorem finite_coe_mul (r : ℝ) (hr : r ≠ 0) (x : EReal) : Finite (r * x) ↔ Finite x := by
  induction x with
  | bot => rcases lt_or_gt_of_ne hr with h | h <;> simp [Finite, EReal.coe_mul_bot_of_neg, EReal.coe_mul_bot_of_pos, h]
  | top => rcases lt_or_gt_of_ne hr with h | h <;> simp [Finite, EReal.coe_mul_top_of_neg, EReal.coe_mul_top_of_pos, h]
  | coe y => rw [← EReal.coe_mul]; exact ⟨fun _ => finite_coe _, fun _ => finite_coe _⟩

theorem finite_sum (n : ℕ) (f : Fin n → EReal) : Finite (∑ j, f j) ↔ ∀ j, Finite (f j) := by
  induction n with
  | zero => simpa using finite_coe 0
  | succ n ih => rw [Fin.sum_univ_succ, finite_add, ih, Fin.forall_fin_succ]

theorem abs_of_not_finite (x : EReal) (h : ¬ Finite x) : abs x = ⊤ := by
  induction x with
  | bot => simp
  | top => simp
  | coe r => exact absurd (finite_coe r) h

theorem finite_transform (p : ℕ → EReal) (i : Fin 16) : Finite (transform p i.val) ↔ ∀ j : Fin 16, Finite (p j.val) := by
  rw [forall_sixteen fun j => Finite (p j)]
  fin_cases i <;> simp [transform, butterfly, finite_add, finite_sub] <;> tauto

/-- One row of the transform, as the sum with the matrix's entries scaled by a quarter. -/
def row (p : ℕ → EReal) (i : ℕ) : EReal := ∑ j : Fin 16, (((sign i j.val : ℝ) / 4 : ℝ) : EReal) * p j.val

theorem sign_ne (i j : ℕ) : (sign i j : ℝ) / 4 ≠ 0 := by
  unfold sign
  split_ifs <;> norm_num

/-- The same butterflies over the reals. -/
def realButterfly (d : ℕ) (r : ℕ → ℝ) (i : ℕ) : ℝ := if i / d % 2 = 0 then r i + r (i + d) else r (i - d) - r i

theorem butterfly_coe (d : ℕ) (r : ℕ → ℝ) : butterfly d (fun n => (r n : EReal)) = fun n => (realButterfly d r n : EReal) := by
  funext n
  unfold butterfly realButterfly
  split_ifs
  · exact (EReal.coe_add _ _).symm
  · exact (EReal.coe_sub _ _).symm

theorem transform_congr (p q : ℕ → EReal) (h : ∀ j : Fin 16, p j.val = q j.val) (i : Fin 16) : transform p i.val = transform q i.val := by
  obtain ⟨h0, h1, h2, h3, h4, h5, h6, h7, h8, h9, h10, h11, h12, h13, h14, h15⟩ := (forall_sixteen fun j => p j = q j).1 h
  fin_cases i <;> simp [transform, butterfly, h0, h1, h2, h3, h4, h5, h6, h7, h8, h9, h10, h11, h12, h13, h14, h15]

theorem real_transform (r : ℕ → ℝ) (i : Fin 16) : realButterfly 8 (realButterfly 4 (realButterfly 2 (realButterfly 1 r))) i.val
    = 4 * ∑ j : Fin 16, (sign i.val j.val : ℝ) / 4 * r j.val := by
  have e : ∀ j : Fin 16, (sign i.val j.val : ℝ) / 4 * r j.val = (sign i.val j.val : ℝ) * r j.val / 4 := fun j => by ring
  simp only [e, ← Finset.sum_div]
  rw [mul_div_cancel₀ _ (by norm_num : (4 : ℝ) ≠ 0)]
  fin_cases i <;> simp [realButterfly, Fin.sum_univ_succ, sign] <;> ring

theorem transform_coe (r : ℕ → ℝ) (p : ℕ → EReal) (h : ∀ j : Fin 16, p j.val = r j.val) (i : Fin 16) :
    transform p i.val = ((4 * ∑ j : Fin 16, (sign i.val j.val : ℝ) / 4 * r j.val : ℝ) : EReal) := by
  rw [transform_congr p (fun n => (r n : EReal)) h i, ← real_transform]
  unfold transform
  simp only [butterfly_coe]

theorem abs_coe (x : ℝ) : abs (x : EReal) = ((|x| : ℝ) : EReal) := by
  rcases le_total 0 x with h | h
  · rw [abs_of_nonneg h]
    exact max_eq_left (by rw [← EReal.coe_neg, EReal.coe_le_coe_iff]; linarith)
  · rw [abs_of_nonpos h]
    exact max_eq_right (by rw [← EReal.coe_neg, EReal.coe_le_coe_iff]; linarith)

theorem abs_four_mul (x : ℝ) : abs ((4 * x : ℝ) : EReal) = 4 * abs (x : EReal) := by
  rw [abs_coe, abs_coe, abs_mul, abs_of_pos (by norm_num : (0 : ℝ) < 4), EReal.coe_mul]
  rfl

theorem row_coe (r : ℕ → ℝ) (p : ℕ → EReal) (h : ∀ j : Fin 16, p j.val = r j.val) (i : ℕ) :
    row p i = ((∑ j : Fin 16, (sign i j.val : ℝ) / 4 * r j.val : ℝ) : EReal) := by
  unfold row
  simp only [h, ← EReal.coe_mul]
  exact (map_sum (⟨⟨Real.toEReal, rfl⟩, EReal.coe_add⟩ : ℝ →+ EReal) _ _).symm

/-- The butterflies compute four times the sum, in absolute value; at infinite entries both are infinite. -/
theorem abs_transform (p : ℕ → EReal) (i : Fin 16) : abs (transform p i.val) = 4 * abs (row p i.val) := by
  by_cases h : ∀ j : Fin 16, Finite (p j.val)
  · choose r hr using fun j => (finite_iff _).1 (h j)
    obtain ⟨r', hr'⟩ : ∃ r' : ℕ → ℝ, ∀ j : Fin 16, p j.val = (r' j.val : EReal) :=
      ⟨fun n => if h : n < 16 then r ⟨n, h⟩ else 0, fun j => by rw [hr j]; simp⟩
    rw [transform_coe _ p hr' i, abs_four_mul, row_coe _ p hr' i]
  · have h1 : ¬ Finite (transform p i.val) := fun hf => h ((finite_transform p i).1 hf)
    have h2 : ¬ Finite (row p i.val) := fun hf => h fun j =>
      (finite_coe_mul _ (sign_ne _ _) _).1 ((finite_sum 16 _).1 hf j)
    rw [abs_of_not_finite _ h1, abs_of_not_finite _ h2]
    exact (EReal.coe_mul_top_of_pos (by norm_num : (0 : ℝ) < 4)).symm

theorem abs_nonneg (x : EReal) : 0 ≤ abs x := by
  rcases le_total 0 x with h | h
  · exact le_max_of_le_left h
  · exact le_max_of_le_right (by simpa using h)

end Cert.Hadamard

end
-- ==== Proof.AmaxTrip.lean ====
/- The search for the largest absolute value over the extended reals: what one trip of its loop, its whole loop and one grid point compute.
   The calls `x_amax` and `dy_amax` have the same body but for the size of the grid; what it computes is read off the first. -/
module

public import proofs.«01_k».proof.Proof.Gen.XAmaxIdeal.Loops
public import proofs.«01_k».proof.Proof.Gen.XAmaxIdeal.Frame
public import proofs.«01_k».proof.Proof.AmaxBody
public import proofs.«01_k».proof.Proof.Hadamard

@[expose] public section

set_option maxRecDepth 65536

noncomputable section

namespace Cert.Amax

open Cert.XAmaxIdeal.Gen
open Idealize.ShloMosaic Idealize.ShloMosaic.TcCoe
open Idealize.SL.Sem

variable {F : FTy → Type} [FloatOps F]

/-- Where a trip's eight reads start. -/
def starts : Starts where
  off := ![Cert.XAmaxIdeal.k0_off1, Cert.XAmaxIdeal.k0_off2, Cert.XAmaxIdeal.k0_off3, Cert.XAmaxIdeal.k0_off4, Cert.XAmaxIdeal.k0_off5, Cert.XAmaxIdeal.k0_off6, Cert.XAmaxIdeal.k0_off7, Cert.XAmaxIdeal.k0_off8]
  off_eq := by decide +kernel
  inb := fun | 0 => k0_off1_inb | 1 => k0_off2_inb | 2 => k0_off3_inb | 3 => k0_off4_inb | 4 => k0_off5_inb | 5 => k0_off6_inb | 6 => k0_off7_inb | 7 => k0_off8_inb

/-- What a trip computes, read off the loop's body. -/
def tripOf : { f : Trip F // ∀ i arg2 harg2 arg3 harg3 arg4 harg4 arg5 harg5 s0 s1 s2 s3 s4 s5 s6 s7 s8 s9 s10 s11 s12 s13 s14 s15 k acc,
    k0_t1_body (F := F) i arg2 harg2 arg3 harg3 arg4 harg4 arg5 harg5 s0 s1 s2 s3 s4 s5 s6 s7 s8 s9 s10 s11 s12 s13 s14 s15 k acc = trip starts f arg3 harg3 s0 s1 s2 s3 s4 s5 s6 s7 s8 s9 s10 s11 s12 s13 s14 s15 k acc } :=
  ⟨_, fun _ _ _ _ _ _ _ _ _ _ _ _ _ _ _ _ _ _ _ _ _ _ _ _ _ _ _ => rfl⟩

theorem absf_eq (x : EReal) : FloatOps.absf (F := Ideal) (φ := .f32) x = Hadamard.abs x := rfl

set_option maxHeartbeats 4000000 in
/-- One trip: the carried maximum joined with the largest absolute value among the sixteen transformed rows of the trip's unit. -/
theorem trip_apply (sg : ℕ → Elt Ideal .f32) (x : Vec Ideal S3072x128 .bf16) (n : ℕ) (acc : Vec Ideal S8x128 .f32) (a : Fin 8) (l : Fin 128) :
    tripOf.1 (sg 0) (sg 1) (sg 2) (sg 3) (sg 4) (sg 5) (sg 6) (sg 7) (sg 8) (sg 9) (sg 10) (sg 11) (sg 12) (sg 13) (sg 14) (sg 15) (raw x n 0) (raw x n 2) (raw x n 4) (raw x n 6) (raw x n 8) (raw x n 10) (raw x n 12) (raw x n 14) acc (ix2 a l)
      = max (acc (ix2 a l)) (Hadamard.peak fun j => at2 x (n + 16 * a.val + j) l * sg j) := by
  unfold tripOf
  pointwise [raw, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay99, k0_pay100]
  refine eq_of_forall_ge_iff (α := EReal) fun z => ?_
  refine Iff.trans ?_ (max_le_iff.trans (and_congr Iff.rfl ((Hadamard.peak_le_iff _ z).trans (Hadamard.forall_sixteen (fun i => Hadamard.abs (Hadamard.transform _ i) ≤ z))))).symm
  simp only [Hadamard.transform, Hadamard.butterfly, Nat.reduceDiv, Nat.reduceMod, Nat.reduceAdd, Nat.reduceSub, if_true, Nat.one_ne_zero, if_false, absf_eq, add_zero]
  generalize n + 16 * a.val = b
  generalize at2 x b l * sg 0 = p0
  generalize at2 x (b + 1) l * sg 1 = p1
  generalize at2 x (b + 2) l * sg 2 = p2
  generalize at2 x (b + 3) l * sg 3 = p3
  generalize at2 x (b + 4) l * sg 4 = p4
  generalize at2 x (b + 5) l * sg 5 = p5
  generalize at2 x (b + 6) l * sg 6 = p6
  generalize at2 x (b + 7) l * sg 7 = p7
  generalize at2 x (b + 8) l * sg 8 = p8
  generalize at2 x (b + 9) l * sg 9 = p9
  generalize at2 x (b + 10) l * sg 10 = p10
  generalize at2 x (b + 11) l * sg 11 = p11
  generalize at2 x (b + 12) l * sg 12 = p12
  generalize at2 x (b + 13) l * sg 13 = p13
  generalize at2 x (b + 14) l * sg 14 = p14
  generalize at2 x (b + 15) l * sg 15 = p15
  simp only [max_le_iff, and_assoc]

/-! ## The whole loop -/

/-- The largest absolute value of the signed transform over the units of a block, at a sublane and a lane. -/
def blockMax (x : Vec Ideal S3072x128 .bf16) (sg : ℕ → EReal) (a : Fin 8) (l : Fin 128) : EReal :=
  ⨆ k : Fin 24, Hadamard.peak fun j => at2 x (128 * k.val + 16 * a.val + j) l * sg j

theorem carried_le_iff (sg : ℕ → Elt Ideal .f32) (x : Vec Ideal S3072x128 .bf16) (init : Vec Ideal S8x128 .f32) (a : Fin 8) (l : Fin 128) (z : EReal) (n : ℕ) :
    (carried tripOf.1 (sg 0) (sg 1) (sg 2) (sg 3) (sg 4) (sg 5) (sg 6) (sg 7) (sg 8) (sg 9) (sg 10) (sg 11) (sg 12) (sg 13) (sg 14) (sg 15) x init n (ix2 a l) : EReal) ≤ z
      ↔ init (ix2 a l) ≤ z ∧ ∀ k : ℕ, k < n → Hadamard.peak (fun j => at2 x (128 * k + 16 * a.val + j) l * sg j) ≤ z := by
  induction n with
  | zero => exact ⟨fun h => ⟨h, fun k hk => absurd hk (by omega)⟩, fun h => h.1⟩
  | succ n ih =>
    rw [carried, trip_apply]
    refine Iff.trans (max_le_iff (α := EReal)) (Iff.trans (and_congr_left' ih) ?_)
    rw [and_assoc]
    refine and_congr_right' ⟨fun h k hk => ?_, fun h => ⟨fun k hk => h k (by omega), h n (by omega)⟩⟩
    rcases Nat.lt_succ_iff_lt_or_eq.mp hk with h' | rfl
    · exact h.1 k h'
    · exact h.2

/-! ## One grid point -/

/-- What the scratch buffer starts from. -/
abbrev zero : Vec F S8x128 .f32 := k0_pay98 (F := F)
/-- What the loop's value is stored as. -/
abbrev same : Vec F S8x128 .f32 → Vec F S8x128 .f32 := k0_pay101
/-- What the last point makes of the scratch buffer. -/
abbrev fin : Vec F S8x128 .f32 → Vec F S8x128 .f32 := k0_pay1

/-- A grid point joins the scratch buffer with the block's largest absolute values. -/
theorem step_apply (s : Vec Ideal S16 .f32) (x : Vec Ideal S3072x128 .bf16) (v : Vec Ideal S8x128 .f32) (a : Fin 8) (l : Fin 128) :
    step tripOf.1 same s x v (ix2 a l) = max (v (ix2 a l)) (blockMax x (sgn s) a l) := by
  unfold step
  pointwise [k0_pay101]
  refine eq_of_forall_ge_iff (α := EReal) fun z => ?_
  refine (carried_le_iff (sgn s) x v a l z 24).trans ?_
  refine Iff.trans (and_congr_right' ?_) (max_le_iff (α := EReal)).symm
  refine Iff.trans ?_ (iSup_le_iff (α := EReal)).symm
  exact ⟨fun h k => h k.val k.isLt, fun h k hk => h ⟨k, hk⟩⟩

/-- What the scratch buffer holds after `n` points: the largest of the blocks' values before. -/
theorem acc_le_iff {N : ℕ} (s : Fin N → Vec Ideal S16 .f32) (x : Fin N → Vec Ideal S3072x128 .bf16) (a : Fin 8) (l : Fin 128) (z : EReal) (n : ℕ) (hn : n ≤ N) :
    (acc tripOf.1 zero same s x n (ix2 a l) : EReal) ≤ z ↔ 0 ≤ z ∧ ∀ t : Fin N, t.val < n → blockMax (x t) (sgn (s t)) a l ≤ z := by
  induction n with
  | zero =>
    have e : acc tripOf.1 zero same s x 0 (ix2 a l) = (0 : EReal) := by
      show k0_pay98 (F := Ideal) (ix2 a l) = (0 : EReal)
      pointwise [k0_pay98]
    rw [e]
    exact ⟨fun h => ⟨h, fun t ht => absurd ht (by omega)⟩, fun h => h.1⟩
  | succ n ih =>
    rw [acc_succ tripOf.1 zero same s x ⟨n, hn⟩, step_apply]
    refine Iff.trans (max_le_iff (α := EReal)) (Iff.trans (and_congr_left' (ih (by omega))) ?_)
    rw [and_assoc]
    refine and_congr_right' ⟨fun h t ht => ?_, fun h => ⟨fun t ht => h t (by omega), h ⟨n, hn⟩ (Nat.lt_succ_self n)⟩⟩
    rcases Nat.lt_succ_iff_lt_or_eq.mp ht with h' | h'
    · exact h.1 t h'
    · obtain rfl : t = ⟨n, hn⟩ := Fin.ext h'
      exact h.2

end Cert.Amax

end
-- ==== Proof.XAmaxRun.lean ====
/- The run of the call `x_amax` over the extended reals: what the scratch holds after every grid point and what the call returns. -/
module

public import proofs.«01_k».proof.Proof.Gen.XAmaxIdeal.Loops
public import proofs.«01_k».proof.Proof.Gen.XAmaxIdeal.Frame
public import proofs.«01_k».proof.Proof.AmaxTrip
public import Idealize.ShloMosaic.Lib.Pipeline.Value
public import Idealize.ShloMosaic.Lib.Claim

@[expose] public section

set_option maxRecDepth 65536

noncomputable section

namespace Cert.XAmaxIdeal.Run

open Cert.XAmaxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The body, and the points at which its branches are taken -/

/-- The condition of the first branch: the grid's first point. -/
abbrev first (i : grid0.Coords) : BitVec 1 :=
  Scalar.cmpi .ne (Scalar.extui (Scalar.cmpi .eq (Scalar.addi (Scalar.muli (BitVec.ofNat 32 (i 0).val) 56#32) (BitVec.ofNat 32 (i 1).val)) 0#32)) 0#32

/-- What the first part hands on: whether the point is the grid's last. -/
abbrev handed (i : grid0.Coords) : BitVec 1 :=
  Scalar.cmpi .eq (Scalar.addi (Scalar.muli (BitVec.ofNat 32 (i 0).val) 56#32) (BitVec.ofNat 32 (i 1).val)) 111#32

/-- The printed body is the shared one. -/
theorem body_eq (i : grid0.Coords) (arg2) (harg2) (arg3) (harg3) (arg4) (harg4) (arg5) (harg5) :
    cc0_x_amax (F := Ideal) i arg2 harg2 arg3 harg3 arg4 harg4 arg5 harg5
      = Amax.body (first i) (k0_cond2 i) (handed i) Amax.starts Amax.tripOf.1 Amax.zero Amax.same Amax.fin arg2 harg2 arg3 harg3 arg4 harg4 arg5 harg5 := rfl

theorem first_iff : ∀ t : Fin cfg0.N, first (grid0.coords t) = 1#1 ↔ t.val = 0 :=
  (by decide +kernel : ∀ t : Fin grid0.N, first (grid0.coords t) = 1#1 ↔ t.val = 0)

theorem last_iff : ∀ t : Fin cfg0.N, k0_cond2 (grid0.coords t) = 1#1 ↔ t.val = 111 :=
  (by decide +kernel : ∀ t : Fin grid0.N, k0_cond2 (grid0.coords t) = 1#1 ↔ t.val = 111)

theorem idle_before : ∀ t : Fin cfg0.N, t.val ≠ 111 → cfg0.idle 2 (grid0.coords t) = true ∧ (cfg0.win 2).flush t = false :=
  (by decide +kernel : ∀ t : Fin grid0.N, t.val ≠ 111 → cfg0.idle 2 (grid0.coords t) = true ∧ (cfg0.win 2).flush t = false)

theorem live_last : ∀ t : Fin cfg0.N, t.val = 111 → cfg0.idle 2 (grid0.coords t) = false :=
  (by decide +kernel : ∀ t : Fin grid0.N, t.val = 111 → cfg0.idle 2 (grid0.coords t) = false)

/-! ## The pipeline's proof data -/

/-- What the scratch holds before point `n`. -/
abbrev acc (c : Dev nD) : ℕ → Vec Ideal Amax.S8x128 .f32 :=
  Amax.acc Amax.tripOf.1 Amax.zero Amax.same (fun t : Fin cfg0.N => iblk m c 0 t) (fun t => iblk m c 1 t)

/-- Between points: before the first the scratch at anything, afterwards at `acc`. -/
def PhiS (c : Dev nD) : ℕ → sProp 𝕄
  | 0 => Pipeline.ΦA spec0 c
  | n + 1 => iprop(owns (c : Thread nD τ) (Memref.whole cc0_scratch0) fullShare (acc m c (n + 1)) ∗ (∃ r, prngReg c r))

/-- The arrays as the region finds them; the inputs' buffers at their blocks after every point; the result's at what the last point makes of the scratch. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Amax.fin (acc m c (t.val + 1))
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = Amax.fin (acc m c (t.val + 1)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The invariant between points, the scratch as a memref at some contents. -/
theorem PhiA0_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- Before any point the scratch is at some contents from which the body starts as from `acc`. -/
theorem Phi_start (c : Dev nD) (t : Fin cfg0.N) : (dats m 0 c).Φ t.castSucc ⊢
    iprop((∃ a, ⌜(if first (grid0.coords t) = 1#1 then Amax.zero else a) = acc m c t.val⌝ ∗ owns (c : Thread nD τ) (Memref.whole cc0_scratch0) fullShare a)
      ∗ (∃ r, prngReg c r)) := by
  rw [show (dats m 0 c).Φ t.castSucc = PhiS m c t.val from rfl]
  by_cases hz : t.val = 0
  · rw [hz, show PhiS m c 0 = Pipeline.ΦA spec0 c from rfl, PhiA0_eq]
    iintro ⟨⟨%d, HS0⟩, Hg⟩
    isplitl [HS0]
    · iexists d; isplitr
      · ipureintro; exact if_pos ((first_iff t).2 hz)
      iexact HS0
    iexact Hg
  · obtain ⟨n, hn⟩ := Nat.exists_eq_succ_of_ne_zero hz
    rw [hn, show PhiS m c (n + 1) = iprop(owns (c : Thread nD τ) (Memref.whole cc0_scratch0) fullShare (acc m c (n + 1)) ∗ (∃ r, prngReg c r)) from rfl]
    iintro ⟨HS0, Hg⟩
    isplitl [HS0]
    · iexists _; isplitr
      · ipureintro; exact if_neg (fun h => hz ((first_iff t).1 h))
      iexact HS0
    iexact Hg

/-- What the body leaves in the result's buffer is what the pipeline expects there. -/
theorem leaves2 (c : Dev nD) (t : Fin cfg0.N) :
    iprop(∃ d, owns (c : Thread nD τ) (st0_2 t) fullShare (if k0_cond2 (grid0.coords t) = 1#1 then Amax.fin (acc m c (t.val + 1)) else (dats m 0 c).before 2 t d))
      ⊢ (dats m 0 c).leavesExact 2 t := by
  by_cases hl : t.val = 111
  · rw [show (dats m 0 c).leavesExact 2 t = owns (c : Thread nD τ) (st0_2 t) fullShare ((dats m 0 c).after 2 t) from by
      unfold Dat.leavesExact; rw [live_last t hl], after0_2]
    simp only [if_pos ((last_iff t).2 hl)]
    iintro ⟨%d, H⟩
    iexact H
  · rw [Dat.leavesExact_idle (dats m 0 c) 2 t (idle_before t hl).1 (idle_before t hl).2]
    simp only [if_neg (fun h => hl ((last_iff t).1 h))]
    exact .rfl

/-- The body at any point, from the scratch as `Phi_start` gives it. -/
theorem sound_body' (c : Dev nD) (t : Fin cfg0.N) :
    iprop(((∃ a, ⌜(if first (grid0.coords t) = 1#1 then Amax.zero else a) = acc m c t.val⌝ ∗ owns (c : Thread nD τ) (Memref.whole cc0_scratch0) fullShare a)
      ∗ (∃ r, prngReg c r)) ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := Ideal)) Variants.none c none) Set.univ (bodyAt0 t) (fun _ =>
      iprop((dats m 0 c).Φ t.succ ∗ (dats m 0 c).owesAt () t.succ
        ∗ (dats m 0 c).leavesExact 0 t
        ∗ (dats m 0 c).leavesExact 1 t
        ∗ (dats m 0 c).leavesExact 2 t)) := by
  unfold bodyAt0
  simp only [before0_0, before0_1]
  rw [show (dats m 0 c).owesAt () t.succ = (dats m 0 c).owesAt () t.castSucc from rfl]
  rw [show (dats m 0 c).Φ t.succ = iprop(owns (c : Thread nD τ) (Memref.whole cc0_scratch0) fullShare (acc m c (t.val + 1)) ∗ (∃ r, prngReg c r)) from rfl]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  iintro H
  iapply (wp_wand_r Idealize.ShloMosaic.frame (wpE (defs₀ (F := Ideal)) Variants.none (c : Thread nD τ) none) Set.univ)
  isplitl [H]
  · rw [body_eq]
    iapply (Amax.point_run (defs₀ (F := Ideal)) c (first (grid0.coords t)) (k0_cond2 (grid0.coords t)) (handed (grid0.coords t)) Amax.starts Amax.tripOf.1 Amax.zero Amax.same Amax.fin
      _ _ _ _ _ _ _ _ (iblk m c 0 t) (iblk m c 1 t) (acc m c t.val) ((dats m 0 c).before 2 t) iprop(∃ r, prngReg c r) ((dats m 0 c).owesAt () t.castSucc) Set.univ)
    iexact H
  iintro %_ ⟨⟨HS0, Hg⟩, Ho, H0, H1, H2⟩
  rw [← Amax.acc_succ]
  isplitl [HS0 Hg]
  · isplitl [HS0]; · iexact HS0
    iexact Hg
  isplitl [Ho]; · iexact Ho
  isplitl [H0]; · iexact H0
  isplitl [H1]; · iexact H1
  iapply (leaves2 m c t)
  iexact H2

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := Ideal)) Variants.none c none) Set.univ (bodyAt0 t) (fun _ =>
      iprop((dats m 0 c).Φ t.succ ∗ (dats m 0 c).owesAt () t.succ
        ∗ (dats m 0 c).leavesExact 0 t
        ∗ (dats m 0 c).leavesExact 1 t
        ∗ (dats m 0 c).leavesExact 2 t)) :=
  (sep_mono_l (Phi_start m c t)).trans (sound_body' m c t)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- After the last point the scratch's contents are forgotten. -/
theorem hout (c : Dev nD) : (dats m 0 c).Φ (Fin.last cfg0.N) ⊢ Pipeline.ΦA spec0 c := by
  rw [show (dats m 0 c).Φ (Fin.last cfg0.N) = PhiS m c cfg0.N from rfl, show cfg0.N = 111 + 1 from N_0, PhiA0_eq]
  unfold PhiS
  iintro ⟨HS0, Hg⟩
  isplitl [HS0]
  · iexists _; iexact HS0
  iexact Hg

/-! ## The run, the frame and the result -/

set_option backward.isDefEq.respectTransparency.types false in
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := hout m)

/-- The call runs to the end, its arguments are as they were and its counters are back at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Idealize.ShloMosaic.θ_run_and (frame_of m ρ (dats m) (A_eq m) ((θ_run defs _ _).mono (fun _ h => h.1) (run_main m ρ)))
    ((θ_run defs _ _).mono (fun _ h => h.2) (run_main m ρ))

/-- An index of the result is in point `t`'s block iff each coordinate is in the block's range on its axis. -/
theorem mem_blk2 (t : Fin cfg0.N) (i : S8x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1).slice (win0_2.rect t)).set ↔ _
  rw [View.set_slice_whole, Rect.mem_set_unit]
  exact Iff.rfl

theorem index2 : ∀ t : Fin cfg0.N, win0_2.index t = ![0, 0] :=
  (by decide +kernel : ∀ t : Fin grid0.N, win0_2.index t = ![0, 0])

/-- The result after the run is whatever the last point leaves in the window. -/
theorem final_of (c : Dev nD) (G : Vec Ideal S8x128 .f32) (hG : ∀ t : Fin cfg0.N, t.val = 111 → (dats m 0 c).after 2 t = G) :
    (dats m 0 c).arrAt 2 cfg0.N = G := by
  refine (dats m 0 c).arrAt_eq_of_cover 2 G (fun t hf => ?_) (fun i => ?_)
  · have ht : t.val = 111 := by
      have h1 := (flush0_2 t).1 hf; have h2 : t.val < 112 := lt_of_lt_of_eq t.isLt N_0; omega
    show (cfg0.win 2).cut (grid0.coords t) ((dats m 0 c).after 2 t) = _
    rw [hG t ht]
    funext y
    show G ((cfg0.win 2).xinj (grid0.coords t) y) = G (((cfg0.win 2).blk t).view.emb y)
    refine congrArg G (funext fun a => Fin.ext ?_)
    have hb : (((cfg0.win 2).blk t).view.emb y a).val = win0_2.index t a * S8x128.size a + 1 * (y a).val := rfl
    have h0 : win0_2.index t a = 0 := by rw [index2]; fin_cases a <;> rfl
    rw [hb, h0]
    show (y a).val = _
    omega
  · refine ⟨⟨111, by rw [show cfg0.N = 112 from N_0]; decide⟩, (flush0_2 _).2 rfl, ?_⟩
    rw [mem_blk2, index2]
    intro a
    have h0 : (i 0).val < 8 := (i 0).isLt
    have h1 : (i 1).val < 128 := (i 1).isLt
    match a with
    | ⟨0, _⟩ => exact ⟨by show 0 * 8 ≤ (i 0).val; omega, by show (i 0).val < 0 * 8 + 8; omega⟩
    | ⟨1, _⟩ => exact ⟨by show 0 * 128 ≤ (i 1).val; omega, by show (i 1).val < 0 * 128 + 128; omega⟩

/-- The run, read at the result: what the last point makes of the scratch. -/
theorem run : θ_run defs (onTc (τ := τ) (main (F := Ideal))) ⟨m, fun _ => 0, ρ⟩ fun r => ∀ c : Dev nD,
      r.2.mem ((c : Thread nD τ).loc main_v1) = Amax.fin (acc m c 112) :=
  (θ_run defs _ _).mono (fun r h c => ((h.1 c).1 2).trans (final_of m c _ fun t ht => by rw [after0_2, ht])) (run_main m ρ)

end Cert.XAmaxIdeal.Run

end
-- ==== Proof.AmaxValue.lean ====
/-
  What the blocked search for the largest absolute value leaves over the extended reals, for any number of features:
  the blocks' maxima together are the maximum over the whole array, and the butterflies' values are four times the
  sums that make the transform.
-/
module

public import proofs.«01_k».proof.Proof.AmaxTrip
public import Idealize.ShloMosaic.Lib.Pipeline.Value
public import Idealize.ShloMosaic.Lib.Pointwise
public import Idealize.ShloMosaic.Lib.IdealHost

@[expose] public section

set_option maxRecDepth 16384

noncomputable section

namespace Cert.Amax

open Cert.XAmaxIdeal.Gen
open Idealize.ShloMosaic Idealize.ShloMosaic.TcCoe Idealize.SL.Sem

/-- The scale that a largest absolute value gives: its quotient by 2688, or one where it is zero. -/
def scale (a : EReal) : EReal := if 0 < a then Ideal.div a (Ideal.ofBits .f32 0x45280000#32) else 1

variable {C : ℕ}

/-- Sixteen successive tokens of one feature, times the signs. -/
def signed (x : Vec Ideal (⟨3, ![6, 1024, C]⟩ : Shape) .bf16) (s : Vec Ideal S16 .f32) (b : Fin 6) (k : Fin 64) (d : Fin C) (j : ℕ) : EReal :=
  x (ix3 b (Fin.ofNat 1024 (16 * k.val + j)) d) * s (ix1 (Fin.ofNat 16 j))

/-- The largest absolute value of the transformed array. -/
def amax (x : Vec Ideal (⟨3, ![6, 1024, C]⟩ : Shape) .bf16) (s : Vec Ideal S16 .f32) : EReal :=
  ⨆ (b : Fin 6) (k : Fin 64) (d : Fin C) (i : Fin 16), Hadamard.abs (Hadamard.row (signed x s b k d) i.val)

theorem amax_le_iff (x : Vec Ideal (⟨3, ![6, 1024, C]⟩ : Shape) .bf16) (s : Vec Ideal S16 .f32) (z : EReal) :
    amax x s ≤ z ↔ ∀ (b : Fin 6) (k : Fin 64) (d : Fin C) (i : Fin 16), Hadamard.abs (Hadamard.row (signed x s b k d) i.val) ≤ z := by
  simp only [amax, iSup_le_iff]

theorem quarter : Ideal.ofBits .f32 0x3E800000#32 = (((1 : ℝ) / 4 : ℝ) : EReal) := by
  simp [Ideal.ofBits, Ideal.ieee]
  rw [← EReal.coe_mul, EReal.coe_eq_coe_iff]
  norm_num

theorem negInf : Ideal.ofBits .f32 0xFF800000#32 = ⊥ := by
  simp [Ideal.ofBits, Ideal.ieee]

theorem quarter_mul_four (a : EReal) : (((1 : ℝ) / 4 : ℝ) : EReal) * (4 * a) = a := by
  have e : (4 : EReal) = ((4 : ℝ) : EReal) := rfl
  rw [← mul_assoc, e, ← EReal.coe_mul]
  norm_num

theorem four_mul_le_iff (a z : EReal) : 4 * a ≤ z ↔ a ≤ (((1 : ℝ) / 4 : ℝ) : EReal) * z := by
  have e : (4 : EReal) * ((((1 : ℝ) / 4 : ℝ) : EReal) * z) = z := by
    have e4 : (4 : EReal) = ((4 : ℝ) : EReal) := rfl
    rw [← mul_assoc, e4, ← EReal.coe_mul]
    norm_num
  constructor
  · intro h
    have := mul_le_mul_of_nonneg_left h (EReal.coe_nonneg.2 (by norm_num : (0 : ℝ) ≤ 1 / 4))
    rwa [quarter_mul_four] at this
  · intro h
    have := mul_le_mul_of_nonneg_left h (by exact_mod_cast (by norm_num : (0 : ℝ) ≤ 4) : (0 : EReal) ≤ 4)
    rwa [e] at this

/-- The last point's result: the scale of a quarter of the scratch buffer's largest entry. -/
theorem fin_apply (v : Vec Ideal S8x128 .f32) (M : EReal) (h : ∀ z : EReal, (∀ a l, (v (ix2 a l) : EReal) ≤ z) ↔ M ≤ z) (y : S8x128.Idx) :
    fin (F := Ideal) v y = scale ((((1 : ℝ) / 4 : ℝ) : EReal) * M) := by
  have e : Finset.fold max (Ideal.ofBits FTy.f32 0xFF800000#32) (fun x : Fin 8 × Fin 128 => (v (ix2 x.1 x.2) : EReal)) Finset.univ = M := by
    refine eq_of_forall_ge_iff fun z => ?_
    rw [← h z]
    refine Iff.trans (Finset.fold_max_le z) ?_
    rw [negInf]
    exact ⟨fun q a l => q.2 (a, l) (Finset.mem_univ _), fun q => ⟨bot_le, fun x _ => q x.1 x.2⟩⟩
  pointwise [k0_pay1]
  rw [e, quarter]
  rfl

/-! ## The blocks of an array -/

/-- The blocks that a grid of `N` points reads of an array of `C` features: point `t` has the half `p t` of the rows and the columns of index `q t`; every half and every index of columns is met. -/
structure Blocks (N C : ℕ) (x : Vec Ideal (⟨3, ![6, 1024, C]⟩ : Shape) .bf16) (blk : Fin N → Vec Ideal S3072x128 .bf16) where
  nb : ℕ
  features : C = nb * 128
  pos : 0 < nb
  p : Fin N → ℕ
  q : Fin N → ℕ
  p_lt : ∀ t, p t < 2
  q_lt : ∀ t, q t < nb
  onto : ∀ i j, i < 2 → j < nb → ∃ t, p t = i ∧ q t = j
  entry : ∀ (t : Fin N) (n : ℕ) (_ : n < 3072) (l : Fin 128) (b : Fin 6) (r : ℕ) (_ : r < 1024) (d : Fin C),
    p t * 3072 + n = b.val * 1024 + r → d.val = q t * 128 + l.val → at2 (blk t) n l = x (ix3 b (Fin.ofNat 1024 r) d)

variable {N : ℕ} {x : Vec Ideal (⟨3, ![6, 1024, C]⟩ : Shape) .bf16} {blk : Fin N → Vec Ideal S3072x128 .bf16}

/-- One block's contribution is below `z` exactly when the transformed groups of the block are. -/
theorem blockMax_le_iff (B : Blocks N C x blk) (s : Vec Ideal S16 .f32) (t : Fin N) (a : Fin 8) (l : Fin 128) (z : EReal) :
    blockMax (blk t) (sgn s) a l ≤ z ↔ ∀ (u : Fin 24) (b : Fin 6) (k : Fin 64) (d : Fin C) (i : Fin 16),
      b.val * 64 + k.val = B.p t * 192 + u.val * 8 + a.val → d.val = B.q t * 128 + l.val →
      4 * Hadamard.abs (Hadamard.row (signed x s b k d) i.val) ≤ z := by
  have hp := B.p_lt t
  have hq := B.q_lt t
  unfold blockMax
  refine Iff.trans (iSup_le_iff (α := EReal)) (forall_congr' fun u => Iff.trans (Hadamard.peak_le_iff _ z) ?_)
  have e : ∀ (b : Fin 6) (k : Fin 64) (d : Fin C) (i : Fin 16), b.val * 64 + k.val = B.p t * 192 + u.val * 8 + a.val → d.val = B.q t * 128 + l.val →
      Hadamard.abs (Hadamard.transform (fun j => at2 (blk t) (128 * u.val + 16 * a.val + j) l * sgn s j) i.val)
        = 4 * Hadamard.abs (Hadamard.row (signed x s b k d) i.val) := by
    intro b k d i hk hd
    rw [← Hadamard.abs_transform]
    refine congrArg Hadamard.abs (Hadamard.transform_congr _ _ (fun j => ?_) i)
    show (at2 (blk t) (128 * u.val + 16 * a.val + j.val) l : EReal) * (sgn s j.val : EReal) = signed x s b k d j.val
    unfold signed
    rw [B.entry t (128 * u.val + 16 * a.val + j.val) (by omega) l b (16 * k.val + j.val) (by omega) d (by omega) hd]
  constructor
  · intro h b k d i hk hd
    rw [← e b k d i hk hd]
    exact h i
  · intro h i
    have hb : (B.p t * 192 + u.val * 8 + a.val) / 64 < 6 := by omega
    have hk : (B.p t * 192 + u.val * 8 + a.val) % 64 < 64 := by omega
    have hd : B.q t * 128 + l.val < C := lt_of_lt_of_eq (by omega) B.features.symm
    have hh := h ⟨_, hb⟩ ⟨_, hk⟩ ⟨_, hd⟩ i (by dsimp only; omega) rfl
    rwa [← e ⟨_, hb⟩ ⟨_, hk⟩ ⟨_, hd⟩ i (by dsimp only; omega) rfl] at hh

/-- The result of the whole grid: the scale of the largest absolute value of the transformed array. -/
theorem result (B : Blocks N C x blk) (s : Vec Ideal S16 .f32) (sg : Fin N → Vec Ideal S16 .f32) (hs : ∀ t, sg t = s) :
    fin (acc tripOf.1 zero same sg blk N) = fun _ => scale (amax x s) := by
  funext y
  rw [fin_apply (acc tripOf.1 zero same sg blk N) (4 * amax x s) ?_ y, quarter_mul_four]
  intro z
  rw [four_mul_le_iff, amax_le_iff]
  simp only [← four_mul_le_iff]
  have hpos : 0 < C := lt_of_lt_of_eq (by have := B.pos; omega) B.features.symm
  constructor
  · intro h b k d i
    have hk := k.isLt; have hb := b.isLt
    have hd : d.val < B.nb * 128 := lt_of_lt_of_eq d.isLt B.features
    obtain ⟨t, hpt, hqt⟩ := B.onto ((b.val * 64 + k.val) / 192) (d.val / 128) (by omega) (by omega)
    have hu : (b.val * 64 + k.val) % 192 / 8 < 24 := by omega
    have ha : (b.val * 64 + k.val) % 8 < 8 := by omega
    have hl : d.val % 128 < 128 := by omega
    refine (blockMax_le_iff B s t ⟨_, ha⟩ ⟨_, hl⟩ z).1 ?_ ⟨_, hu⟩ b k d i ?_ ?_
    · rw [← hs t]
      exact ((acc_le_iff sg blk ⟨_, ha⟩ ⟨_, hl⟩ z N le_rfl).1 (h _ _)).2 t t.isLt
    · dsimp only; omega
    · dsimp only; omega
  · intro h a l
    refine (acc_le_iff sg blk a l z N le_rfl).2 ⟨?_, fun t _ => ?_⟩
    · exact le_trans (mul_nonneg (by exact_mod_cast (by norm_num : (0 : ℝ) ≤ 4)) (Hadamard.abs_nonneg _)) (h 0 0 ⟨0, hpos⟩ 0)
    · rw [hs t]
      exact (blockMax_le_iff B s t a l z).2 fun u b k d i _ _ => h b k d i

end Cert.Amax

end
-- ==== Proof.XAmaxValue.lean ====
/- What the call `x_amax` and its reference compute over the extended reals: the scale of the largest absolute value of the transformed array. -/
module

public import proofs.«01_k».proof.Defs
public import proofs.«01_k».proof.Proof.AmaxValue
public import proofs.«01_k».proof.Proof.XAmaxRun
public import proofs.«01_k».proof.Proof.Gen.XAmaxRefIdeal.Run
public import proofs.«01_k».proof.Proof.Gen.XAmaxRefIdeal.Read
public import Idealize.ShloMosaic.Lib.Pipeline.Value
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.XAmaxIdeal.RefValue

open Cert.XAmaxIdeal Cert.XAmaxIdeal.Gen Cert.XAmaxIdeal.Run
open Cert.Amax (at2 sgn scale amax)

variable (m : (ℓ : Loc nD τ sig) → Buf (Elt Ideal) ℓ)

theorem reshaped (c : Dev nD) : V m c main_v0 = shapeCast _ (m ((c : Thread nD τ).loc main_arg0)) shapeCasts_S6x1024x7168_S6144x7168 := by
  rfl

/-- The index maps in closed form. -/
theorem idx_facts : ∀ t : Fin cfg0.N,
    win0_0.index t 0 = 0 ∧ win0_1.index t 0 = t.val / 56 ∧ win0_1.index t 1 = t.val % 56 :=
  (by decide +kernel : ∀ t : Fin grid0.N, _)

/-- An entry of a block, in the whole array. -/
theorem block_entry (c : Dev nD) (t : Fin cfg0.N) (n : ℕ) (hn : n < 3072) (l : Fin 128) (b : Fin 6) (r : ℕ) (hr : r < 1024) (d : Fin 7168)
    (hR : t.val / 56 * 3072 + n = b.val * 1024 + r) (hd : d.val = t.val % 56 * 128 + l.val) :
    at2 (iblk m c 1 t) n l = m ((c : Thread nD τ).loc main_arg0) (ix3 b (Fin.ofNat 1024 r) d) := by
  obtain ⟨h0, h10, h11⟩ := idx_facts t
  show V m c main_v0 (((cfg0.win 1).blk t).view.emb (ix2 (Fin.ofNat 3072 n) l)) = _
  rw [reshaped]
  refine shapeCast_apply _ _ _ _ ?_
  have hR' : t.val / 56 * 3072 + n < 6144 := by have := b.isLt; omega
  have e : ((cfg0.win 1).blk t).view.emb (ix2 (Fin.ofNat 3072 n) l) = (ix2 (⟨t.val / 56 * 3072 + n, hR'⟩ : Fin 6144) d : S6144x7168.Idx) :=
    Shape.idx_ext₂ (show win0_1.index t 0 * 3072 + 1 * (n % 3072) = _ by rw [h10, Nat.mod_eq_of_lt hn]; simp)
      (show win0_1.index t 1 * 128 + 1 * l.val = d.val by rw [h11, hd]; simp)
  rw [e]
  show (S6x1024x7168.rowMajor (ix3 b (Fin.ofNat 1024 r) d)).val = (S6144x7168.rowMajor (ix2 (⟨t.val / 56 * 3072 + n, hR'⟩ : Fin 6144) d)).val
  rw [Shape.rowMajor_val_three, Shape.rowMajor_val_two]
  show (b.val * 1024 + r % 1024) * 7168 + d.val = (t.val / 56 * 3072 + n) * 7168 + d.val
  rw [Nat.mod_eq_of_lt hr, hR]

/-- The signs that a point reads are all of them. -/
theorem sign_block (c : Dev nD) (t : Fin cfg0.N) : (iblk m c 0 t : Vec Ideal Amax.S16 .f32) = m ((c : Thread nD τ).loc main_arg1) := by
  obtain ⟨h0, h10, h11⟩ := idx_facts t
  funext y
  show V m c main_arg1 (((cfg0.win 0).blk t).view.emb y) = _
  rw [V_main_arg1]
  refine congrArg (m ((c : Thread nD τ).loc main_arg1)) (funext fun (a : Fin 1) => ?_)
  obtain rfl : a = 0 := Subsingleton.elim _ _
  exact Fin.ext (show win0_0.index t 0 * 16 + 1 * (y 0).val = (y 0).val by rw [h0]; simp)

/-- The blocks that the grid reads. -/
def blocks (c : Dev nD) : Amax.Blocks cfg0.N 7168 (m ((c : Thread nD τ).loc main_arg0)) (fun t => iblk m c 1 t) where
  nb := 56
  features := rfl
  pos := by decide
  p t := t.val / 56
  q t := t.val % 56
  p_lt t := by have ht : t.val < 112 := lt_of_lt_of_eq t.isLt N_0; omega
  q_lt t := by omega
  onto i j hi hj := ⟨⟨i * 56 + j, by rw [show cfg0.N = 112 from N_0]; omega⟩, by dsimp only; omega, by dsimp only; omega⟩
  entry t n hn l b r hr d hR hd := block_entry m c t n hn l b r hr d hR hd

/-- The result of the whole run. -/
theorem result (c : Dev nD) : Amax.fin (acc m c 112)
    = fun _ => scale (amax (m ((c : Thread nD τ).loc main_arg0)) (m ((c : Thread nD τ).loc main_arg1))) := by
  rw [← show cfg0.N = 112 from N_0]
  exact Amax.result (blocks m c) (m ((c : Thread nD τ).loc main_arg1)) (fun t => iblk m c 0 t) (sign_block m c)

end Cert.XAmaxIdeal.RefValue

namespace Cert.XAmaxRefIdeal.RefValue

open Cert.XAmaxRefIdeal Cert.XAmaxRefIdeal.Gen
open Cert.Amax (scale signed amax amax_le_iff quarter negInf)

/-- The reference's integer matrix, entry by entry. -/
theorem table (i j : Fin 16) : (Read.val_main_v12 (F := Ideal) (ix2 i j) : BitVec 32).toInt = Hadamard.sign i.val j.val := by
  simp only [Read.val_main_v12_apply, Read.val_main_v11_apply, Read.val_main_c_1_apply, Read.val_main_v10_apply, Read.val_main_v9_apply, Read.val_main_c_0_apply,
    Read.val_main_v8_apply, Read.val_main_v7_apply, Read.val_main_c_apply, Read.val_main_v6_apply, Read.val_main_v5_apply, Read.val_main_v4_apply, Read.val_main_v3_apply,
    Read.val_main_v2_apply, Read.val_main_v1_apply, Read.val_main_v0_apply]
  show BitVec.toInt (IntOp.subi 1#32 (IntOp.muli 2#32 (IntOp.andi (IntOp.ctpop (IntOp.andi (BitVec.ofNat 32 i.val) (BitVec.ofNat 32 j.val))) 1#32))) = _
  revert i j
  decide +kernel

theorem x_entry (x0 : (⟨S6x1024x7168, .bf16⟩ : BufTy).Contents (Elt Ideal)) (d : Fin 7168) (b : Fin 6) (k : Fin 64) (i j : Fin 16) :
    Read.val_main_v20 (F := Ideal) x0 (Read.lidx_main_v21 (Read.idx_main_v22 (ix4 d b k i)) j) = x0 (ix3 b (Fin.ofNat 1024 (16 * k.val + j.val)) d) := by
  rw [Read.val_main_v20_apply, Read.val_main_v19_apply]
  refine congrArg x0 (funext fun a => ?_)
  match a with
  | ⟨0, _⟩ => exact Fin.ext (show (((b.val * 64 + k.val) * 16 + j.val) * 7168 + d.val) / 7340032 = b.val by omega)
  | ⟨1, _⟩ => exact Fin.ext (show (((b.val * 64 + k.val) * 16 + j.val) * 7168 + d.val) / 7168 % 1024 = (16 * k.val + j.val) % 1024 by omega)
  | ⟨2, _⟩ => exact Fin.ext (show (((b.val * 64 + k.val) * 16 + j.val) * 7168 + d.val) % 7168 = d.val by omega)

theorem q_entry (x1 : (⟨S16, .f32⟩ : BufTy).Contents (Elt Ideal)) (i j : Fin 16) :
    Read.val_main_v18 (F := Ideal) x1 (ix2 i j) = (((Hadamard.sign i.val j.val : ℝ) : EReal) * x1 (ix1 j)) * (((1 : ℝ) / 4 : ℝ) : EReal) := by
  rw [Read.val_main_v18_apply, Read.val_main_v17_apply, Read.val_main_cst_apply, Read.val_main_v16_apply, Read.val_main_v15_apply, Read.val_main_v14_apply, Read.val_main_v13_apply]
  have e : Read.idx_main_v14 (Read.idx_main_v15 (ix2 i j)) = ix1 j := funext fun a => by
    have ha : a = 0 := Subsingleton.elim _ _
    subst ha; rfl
  rw [e, ← table i j, ← quarter]
  rfl

theorem ref_entry (x0 : (⟨S6x1024x7168, .bf16⟩ : BufTy).Contents (Elt Ideal)) (x1 : (⟨S16, .f32⟩ : BufTy).Contents (Elt Ideal)) (d : Fin 7168) (b : Fin 6) (k : Fin 64) (i : Fin 16) :
    Read.val_main_v23 (F := Ideal) x0 x1 (ix4 d b k i) = Hadamard.abs (Hadamard.row (signed x0 x1 b k d) i.val) := by
  rw [Read.val_main_v23_apply, Read.val_main_v22_apply, Read.val_main_v21_apply]
  have e : ∀ j : Fin 16, Read.val_main_v20 (F := Ideal) x0 (Read.lidx_main_v21 (Read.idx_main_v22 (ix4 d b k i)) j)
      * Read.val_main_v18 (F := Ideal) x1 (Read.ridx_main_v21 (Read.idx_main_v22 (ix4 d b k i)) j)
      = (((Hadamard.sign i.val j.val : ℝ) / 4 : ℝ) : EReal) * signed x0 x1 b k d j.val := by
    intro j
    have er : Read.ridx_main_v21 (Read.idx_main_v22 (ix4 d b k i)) j = ix2 i j := Shape.idx_ext₂ rfl rfl
    have ej : (Fin.ofNat 16 j.val) = j := Fin.ext (Nat.mod_eq_of_lt j.isLt)
    rw [er, x_entry, q_entry]
    unfold signed
    rw [ej, show ((Hadamard.sign i.val j.val : ℝ) / 4 : ℝ) = (Hadamard.sign i.val j.val : ℝ) * ((1 : ℝ) / 4) by ring, EReal.coe_mul]
    generalize ((Hadamard.sign i.val j.val : ℝ) : EReal) = u
    generalize (((1 : ℝ) / 4 : ℝ) : EReal) = q
    have ac : ∀ x s : EReal, x * (u * s * q) = u * q * (x * s) := fun x s => by ac_rfl
    exact ac _ _
  simp only [e]
  rfl

theorem ref_amax (x0 : (⟨S6x1024x7168, .bf16⟩ : BufTy).Contents (Elt Ideal)) (x1 : (⟨S16, .f32⟩ : BufTy).Contents (Elt Ideal)) (y : S_.Idx) :
    Read.val_main_v24 (F := Ideal) x0 x1 y = amax x0 x1 := by
  unfold Read.val_main_v24
  rw [Host.reduce_eq_fold]
  refine eq_of_forall_ge_iff (α := EReal) fun z => ?_
  rw [amax_le_iff]
  refine Iff.trans (Finset.fold_max_le (β := EReal) z) ?_
  rw [show Read.val_main_cst_2 (F := Ideal) (Shape.Idx.first h_S_) = (⊥ : EReal) from negInf]
  constructor
  · intro h b k d i
    rw [← ref_entry]
    exact h.2 (ix4 d b k i) (Finset.mem_filter.2 ⟨Finset.mem_univ _, funext fun a => a.elim0⟩)
  · refine fun h => ⟨bot_le, fun w _ => ?_⟩
    obtain ⟨d, b, k, i, rfl⟩ : ∃ (d : Fin 7168) (b : Fin 6) (k : Fin 64) (i : Fin 16), w = ix4 d b k i := ⟨_, _, _, _, eq_ix4 w⟩
    rw [ref_entry]
    exact h b k d i

/-- The reference's composed term: the scale of the largest absolute value, everywhere. -/
theorem ref_eq (x0 : (⟨S6x1024x7168, .bf16⟩ : BufTy).Contents (Elt Ideal)) (x1 : (⟨S16, .f32⟩ : BufTy).Contents (Elt Ideal)) :
    Read.val_main_v30 (F := Ideal) x0 x1 = fun _ => scale (amax x0 x1) := by
  funext y
  rw [Read.val_main_v30_apply, Read.val_main_v29_apply]
  unfold Read.val_main_v28
  rw [shapeCast_apply _ _ _ (Shape.Idx.first h_S_) (by decide +revert), Read.val_main_v27_apply, Read.val_main_v25_apply, Read.val_main_v26_apply, Read.val_main_call0_v0_apply, ref_amax]
  generalize amax x0 x1 = a
  pointwise [Read.val_main_cst_3, Read.val_main_cst_4, Read.val_main_cst_5]
  rfl

end Cert.XAmaxRefIdeal.RefValue

end
-- ==== Proof.DyAmaxFrame.lean ====
/- The frame of the call `dy_amax` in bit-exact arithmetic. -/
module

public import proofs.«01_k».proof.Proof.Gen.DyAmax.Loops
public import proofs.«01_k».proof.Proof.Gen.DyAmax.Frame
public import proofs.«01_k».proof.Proof.AmaxBody

@[expose] public section

set_option maxRecDepth 65536

noncomputable section

namespace Cert.DyAmax.Run

open Cert.DyAmax.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [BitOps F]

local notation "𝕄" => MT nD τ sig Unit (Elt F) ℕ (UR sig nD τ) ℕ

/-! ## The body -/

/-- Where a trip's eight reads start. -/
def starts : Amax.Starts where
  off := ![k0_off1, k0_off2, k0_off3, k0_off4, k0_off5, k0_off6, k0_off7, k0_off8]
  off_eq := by decide +kernel
  inb := fun | 0 => k0_off1_inb | 1 => k0_off2_inb | 2 => k0_off3_inb | 3 => k0_off4_inb | 4 => k0_off5_inb | 5 => k0_off6_inb | 6 => k0_off7_inb | 7 => k0_off8_inb

/-- What a trip computes, read off the loop's body. -/
def tripOf : { f : Amax.Trip F // ∀ i arg2 harg2 arg3 harg3 arg4 harg4 arg5 harg5 s0 s1 s2 s3 s4 s5 s6 s7 s8 s9 s10 s11 s12 s13 s14 s15 k acc,
    k0_t1_body (F := F) i arg2 harg2 arg3 harg3 arg4 harg4 arg5 harg5 s0 s1 s2 s3 s4 s5 s6 s7 s8 s9 s10 s11 s12 s13 s14 s15 k acc = Amax.trip starts f arg3 harg3 s0 s1 s2 s3 s4 s5 s6 s7 s8 s9 s10 s11 s12 s13 s14 s15 k acc } :=
  ⟨_, fun _ _ _ _ _ _ _ _ _ _ _ _ _ _ _ _ _ _ _ _ _ _ _ _ _ _ _ => rfl⟩

/-- The condition of the first branch: the grid's first point. -/
abbrev first (i : grid0.Coords) : BitVec 1 :=
  Scalar.cmpi .ne (Scalar.extui (Scalar.cmpi .eq (Scalar.addi (Scalar.muli (BitVec.ofNat 32 (i 0).val) 144#32) (BitVec.ofNat 32 (i 1).val)) 0#32)) 0#32

/-- What the first part hands on: whether the point is the grid's last. -/
abbrev handed (i : grid0.Coords) : BitVec 1 :=
  Scalar.cmpi .eq (Scalar.addi (Scalar.muli (BitVec.ofNat 32 (i 0).val) 144#32) (BitVec.ofNat 32 (i 1).val)) 287#32

/-- The printed body is the shared one. -/
theorem body_eq (i : grid0.Coords) (arg2) (harg2) (arg3) (harg3) (arg4) (harg4) (arg5) (harg5) :
    cc0_dy_amax (F := F) i arg2 harg2 arg3 harg3 arg4 harg4 arg5 harg5
      = Amax.body (first i) (k0_cond2 i) (handed i) starts tripOf.1 (k0_pay92 (F := F)) k0_pay95 k0_pay1 arg2 harg2 arg3 harg3 arg4 harg4 arg5 harg5 := rfl

/-! ## The pipeline's proof data: the result's contents are not stated -/

variable (m : (ℓ : Loc nD τ sig) → Buf (Elt F) ℓ) (ρ : Dev nD → PrngReg)

/-- The window of the result: nothing is stated of what it holds. -/
def forgets0 : Fin 3 → Bool := fun w => w.val == 2

/-- The arrays as the region finds them; the inputs' buffers at their blocks after every point; the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The invariant between points, the scratch as a memref at some contents. -/
theorem PhiA0_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

set_option maxHeartbeats 4800000 in
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare d))
    ⊢ wp frame (wpE (defs₀ (F := F)) Variants.none c none) Set.univ (bodyAt0 t) (fun _ =>
      iprop((dats m 0 c).Φ t.succ ∗ (dats m 0 c).owesAt () t.succ
        ∗ (dats m 0 c).leavesExact 0 t
        ∗ (dats m 0 c).leavesExact 1 t
        ∗ (∃ d, owns (c : Thread nD τ) (st0_2 t) fullShare d))) := by
  unfold bodyAt0
  simp only [before0_0, before0_1]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  rw [body_eq]
  iintro ⟨⟨⟨%a, HS0⟩, Hg⟩, Ho, ⟨%d0, H0⟩, ⟨%d1, H1⟩, ⟨%d2, H2⟩⟩
  iapply (Amax.body_run (defs₀ (F := F)) c (first (grid0.coords t)) (k0_cond2 (grid0.coords t)) (handed (grid0.coords t)) starts tripOf.1 (k0_pay92 (F := F)) k0_pay95 k0_pay1
    _ _ _ _ _ _ _ _ (iblk m c 0 t) (iblk m c 1 t) d2 a Set.univ _)
  isplitl [H0]; · iexact H0
  isplitl [H1]; · iexact H1
  isplitl [H2]; · iexact H2
  isplitl [HS0]; · iexact HS0
  iintro ⟨H0, H1, H2, HS0⟩
  isplitl [HS0 Hg]
  · isplitl [HS0]; · iexists _; iexact HS0
    iexact Hg
  isplitl [Ho]; · iexact Ho
  isplitl [H0]; · iexact H0
  isplitl [H1]; · iexact H1
  iexists _; iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := fun c => Idealize.SL.BI.Entails.refl _)

/-- The call runs to the end, its arguments are as they were and its counters are back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨((h.1 c).2 main_arg0 (Pipeline.mem_restRefs_of main_arg0 (by decide) (by decide))).trans (V_main_arg0 m c),
       (Pipeline.RDat.FramePost.arr_in h.1 c 0 rfl).trans ((A_eq m c 0).trans (V_main_arg1 m c))⟩, h.2⟩) (run_main m ρ)

end Cert.DyAmax.Run

end
-- ==== Proof.DyAmaxRun.lean ====
/- The run of the call `dy_amax` over the extended reals: what the scratch holds after every grid point and what the call returns. -/
module

public import proofs.«01_k».proof.Proof.Gen.DyAmaxIdeal.Loops
public import proofs.«01_k».proof.Proof.Gen.DyAmaxIdeal.Frame
public import proofs.«01_k».proof.Proof.AmaxTrip
public import Idealize.ShloMosaic.Lib.Pipeline.Value
public import Idealize.ShloMosaic.Lib.Claim

@[expose] public section

set_option maxRecDepth 65536

noncomputable section

namespace Cert.DyAmaxIdeal.Run

open Cert.DyAmaxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The body, and the points at which its branches are taken -/

/-- The condition of the first branch: the grid's first point. -/
abbrev first (i : grid0.Coords) : BitVec 1 :=
  Scalar.cmpi .ne (Scalar.extui (Scalar.cmpi .eq (Scalar.addi (Scalar.muli (BitVec.ofNat 32 (i 0).val) 144#32) (BitVec.ofNat 32 (i 1).val)) 0#32)) 0#32

/-- What the first part hands on: whether the point is the grid's last. -/
abbrev handed (i : grid0.Coords) : BitVec 1 :=
  Scalar.cmpi .eq (Scalar.addi (Scalar.muli (BitVec.ofNat 32 (i 0).val) 144#32) (BitVec.ofNat 32 (i 1).val)) 287#32

/-- The printed body is the shared one. -/
theorem body_eq (i : grid0.Coords) (arg2) (harg2) (arg3) (harg3) (arg4) (harg4) (arg5) (harg5) :
    cc0_dy_amax (F := Ideal) i arg2 harg2 arg3 harg3 arg4 harg4 arg5 harg5
      = Amax.body (first i) (k0_cond2 i) (handed i) Amax.starts Amax.tripOf.1 Amax.zero Amax.same Amax.fin arg2 harg2 arg3 harg3 arg4 harg4 arg5 harg5 := rfl

theorem first_iff : ∀ t : Fin cfg0.N, first (grid0.coords t) = 1#1 ↔ t.val = 0 :=
  (by decide +kernel : ∀ t : Fin grid0.N, first (grid0.coords t) = 1#1 ↔ t.val = 0)

theorem last_iff : ∀ t : Fin cfg0.N, k0_cond2 (grid0.coords t) = 1#1 ↔ t.val = 287 :=
  (by decide +kernel : ∀ t : Fin grid0.N, k0_cond2 (grid0.coords t) = 1#1 ↔ t.val = 287)

theorem idle_before : ∀ t : Fin cfg0.N, t.val ≠ 287 → cfg0.idle 2 (grid0.coords t) = true ∧ (cfg0.win 2).flush t = false :=
  (by decide +kernel : ∀ t : Fin grid0.N, t.val ≠ 287 → cfg0.idle 2 (grid0.coords t) = true ∧ (cfg0.win 2).flush t = false)

theorem live_last : ∀ t : Fin cfg0.N, t.val = 287 → cfg0.idle 2 (grid0.coords t) = false :=
  (by decide +kernel : ∀ t : Fin grid0.N, t.val = 287 → cfg0.idle 2 (grid0.coords t) = false)

/-! ## The pipeline's proof data -/

/-- What the scratch holds before point `n`. -/
abbrev acc (c : Dev nD) : ℕ → Vec Ideal Amax.S8x128 .f32 :=
  Amax.acc Amax.tripOf.1 Amax.zero Amax.same (fun t : Fin cfg0.N => iblk m c 0 t) (fun t => iblk m c 1 t)

/-- Between points: before the first the scratch at anything, afterwards at `acc`. -/
def PhiS (c : Dev nD) : ℕ → sProp 𝕄
  | 0 => Pipeline.ΦA spec0 c
  | n + 1 => iprop(owns (c : Thread nD τ) (Memref.whole cc0_scratch0) fullShare (acc m c (n + 1)) ∗ (∃ r, prngReg c r))

/-- The arrays as the region finds them; the inputs' buffers at their blocks after every point; the result's at what the last point makes of the scratch. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Amax.fin (acc m c (t.val + 1))
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = Amax.fin (acc m c (t.val + 1)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- The invariant between points, the scratch as a memref at some contents. -/
theorem PhiA0_eq (c : Dev nD) :
    (Pipeline.ΦA spec0 c : sProp 𝕄)
      = iprop(iprop((∃ d, owns (c : Thread nD τ) (Memref.whole cc0_scratch0) fullShare d)) ∗ (∃ r, prngReg c r)) := by
  unfold Pipeline.ΦA; rw [scopedRest0_eq]; simp only [owns_whole]; try rfl

/-- Before any point the scratch is at some contents from which the body starts as from `acc`. -/
theorem Phi_start (c : Dev nD) (t : Fin cfg0.N) : (dats m 0 c).Φ t.castSucc ⊢
    iprop((∃ a, ⌜(if first (grid0.coords t) = 1#1 then Amax.zero else a) = acc m c t.val⌝ ∗ owns (c : Thread nD τ) (Memref.whole cc0_scratch0) fullShare a)
      ∗ (∃ r, prngReg c r)) := by
  rw [show (dats m 0 c).Φ t.castSucc = PhiS m c t.val from rfl]
  by_cases hz : t.val = 0
  · rw [hz, show PhiS m c 0 = Pipeline.ΦA spec0 c from rfl, PhiA0_eq]
    iintro ⟨⟨%d, HS0⟩, Hg⟩
    isplitl [HS0]
    · iexists d; isplitr
      · ipureintro; exact if_pos ((first_iff t).2 hz)
      iexact HS0
    iexact Hg
  · obtain ⟨n, hn⟩ := Nat.exists_eq_succ_of_ne_zero hz
    rw [hn, show PhiS m c (n + 1) = iprop(owns (c : Thread nD τ) (Memref.whole cc0_scratch0) fullShare (acc m c (n + 1)) ∗ (∃ r, prngReg c r)) from rfl]
    iintro ⟨HS0, Hg⟩
    isplitl [HS0]
    · iexists _; isplitr
      · ipureintro; exact if_neg (fun h => hz ((first_iff t).1 h))
      iexact HS0
    iexact Hg

/-- What the body leaves in the result's buffer is what the pipeline expects there. -/
theorem leaves2 (c : Dev nD) (t : Fin cfg0.N) :
    iprop(∃ d, owns (c : Thread nD τ) (st0_2 t) fullShare (if k0_cond2 (grid0.coords t) = 1#1 then Amax.fin (acc m c (t.val + 1)) else (dats m 0 c).before 2 t d))
      ⊢ (dats m 0 c).leavesExact 2 t := by
  by_cases hl : t.val = 287
  · rw [show (dats m 0 c).leavesExact 2 t = owns (c : Thread nD τ) (st0_2 t) fullShare ((dats m 0 c).after 2 t) from by
      unfold Dat.leavesExact; rw [live_last t hl], after0_2]
    simp only [if_pos ((last_iff t).2 hl)]
    iintro ⟨%d, H⟩
    iexact H
  · rw [Dat.leavesExact_idle (dats m 0 c) 2 t (idle_before t hl).1 (idle_before t hl).2]
    simp only [if_neg (fun h => hl ((last_iff t).1 h))]
    exact .rfl

/-- The body at any point, from the scratch as `Phi_start` gives it. -/
theorem sound_body' (c : Dev nD) (t : Fin cfg0.N) :
    iprop(((∃ a, ⌜(if first (grid0.coords t) = 1#1 then Amax.zero else a) = acc m c t.val⌝ ∗ owns (c : Thread nD τ) (Memref.whole cc0_scratch0) fullShare a)
      ∗ (∃ r, prngReg c r)) ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := Ideal)) Variants.none c none) Set.univ (bodyAt0 t) (fun _ =>
      iprop((dats m 0 c).Φ t.succ ∗ (dats m 0 c).owesAt () t.succ
        ∗ (dats m 0 c).leavesExact 0 t
        ∗ (dats m 0 c).leavesExact 1 t
        ∗ (dats m 0 c).leavesExact 2 t)) := by
  unfold bodyAt0
  simp only [before0_0, before0_1]
  rw [show (dats m 0 c).owesAt () t.succ = (dats m 0 c).owesAt () t.castSucc from rfl]
  rw [show (dats m 0 c).Φ t.succ = iprop(owns (c : Thread nD τ) (Memref.whole cc0_scratch0) fullShare (acc m c (t.val + 1)) ∗ (∃ r, prngReg c r)) from rfl]
  rw [show (dats m 0 c).leavesExact 0 t = owns (c : Thread nD τ) (st0_0 t) fullShare ((dats m 0 c).after 0 t) from rfl, after0_0]
  rw [show (dats m 0 c).leavesExact 1 t = owns (c : Thread nD τ) (st0_1 t) fullShare ((dats m 0 c).after 1 t) from rfl, after0_1]
  iintro H
  iapply (wp_wand_r Idealize.ShloMosaic.frame (wpE (defs₀ (F := Ideal)) Variants.none (c : Thread nD τ) none) Set.univ)
  isplitl [H]
  · rw [body_eq]
    iapply (Amax.point_run (defs₀ (F := Ideal)) c (first (grid0.coords t)) (k0_cond2 (grid0.coords t)) (handed (grid0.coords t)) Amax.starts Amax.tripOf.1 Amax.zero Amax.same Amax.fin
      _ _ _ _ _ _ _ _ (iblk m c 0 t) (iblk m c 1 t) (acc m c t.val) ((dats m 0 c).before 2 t) iprop(∃ r, prngReg c r) ((dats m 0 c).owesAt () t.castSucc) Set.univ)
    iexact H
  iintro %_ ⟨⟨HS0, Hg⟩, Ho, H0, H1, H2⟩
  rw [← Amax.acc_succ]
  isplitl [HS0 Hg]
  · isplitl [HS0]; · iexact HS0
    iexact Hg
  isplitl [Ho]; · iexact Ho
  isplitl [H0]; · iexact H0
  isplitl [H1]; · iexact H1
  iapply (leaves2 m c t)
  iexact H2

theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d)))
    ⊢ wp frame (wpE (defs₀ (F := Ideal)) Variants.none c none) Set.univ (bodyAt0 t) (fun _ =>
      iprop((dats m 0 c).Φ t.succ ∗ (dats m 0 c).owesAt () t.succ
        ∗ (dats m 0 c).leavesExact 0 t
        ∗ (dats m 0 c).leavesExact 1 t
        ∗ (dats m 0 c).leavesExact 2 t)) :=
  (sep_mono_l (Phi_start m c t)).trans (sound_body' m c t)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- After the last point the scratch's contents are forgotten. -/
theorem hout (c : Dev nD) : (dats m 0 c).Φ (Fin.last cfg0.N) ⊢ Pipeline.ΦA spec0 c := by
  rw [show (dats m 0 c).Φ (Fin.last cfg0.N) = PhiS m c cfg0.N from rfl, show cfg0.N = 287 + 1 from N_0, PhiA0_eq]
  unfold PhiS
  iintro ⟨HS0, Hg⟩
  isplitl [HS0]
  · iexists _; iexact HS0
  iexact Hg

/-! ## The run, the frame and the result -/

set_option backward.isDefEq.respectTransparency.types false in
theorem run_main : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Idealize.SL.BI.Entails.refl _) (hout := hout m)

/-- The call runs to the end, its arguments are as they were and its counters are back at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Idealize.ShloMosaic.θ_run_and (frame_of m ρ (dats m) (A_eq m) ((θ_run defs _ _).mono (fun _ h => h.1) (run_main m ρ)))
    ((θ_run defs _ _).mono (fun _ h => h.2) (run_main m ρ))

/-- An index of the result is in point `t`'s block iff each coordinate is in the block's range on its axis. -/
theorem mem_blk2 (t : Fin cfg0.N) (i : S8x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1).slice (win0_2.rect t)).set ↔ _
  rw [View.set_slice_whole, Rect.mem_set_unit]
  exact Iff.rfl

theorem index2 : ∀ t : Fin cfg0.N, win0_2.index t = ![0, 0] :=
  (by decide +kernel : ∀ t : Fin grid0.N, win0_2.index t = ![0, 0])

/-- The result after the run is whatever the last point leaves in the window. -/
theorem final_of (c : Dev nD) (G : Vec Ideal S8x128 .f32) (hG : ∀ t : Fin cfg0.N, t.val = 287 → (dats m 0 c).after 2 t = G) :
    (dats m 0 c).arrAt 2 cfg0.N = G := by
  refine (dats m 0 c).arrAt_eq_of_cover 2 G (fun t hf => ?_) (fun i => ?_)
  · have ht : t.val = 287 := by
      have h1 := (flush0_2 t).1 hf; have h2 : t.val < 288 := lt_of_lt_of_eq t.isLt N_0; omega
    show (cfg0.win 2).cut (grid0.coords t) ((dats m 0 c).after 2 t) = _
    rw [hG t ht]
    funext y
    show G ((cfg0.win 2).xinj (grid0.coords t) y) = G (((cfg0.win 2).blk t).view.emb y)
    refine congrArg G (funext fun a => Fin.ext ?_)
    have hb : (((cfg0.win 2).blk t).view.emb y a).val = win0_2.index t a * S8x128.size a + 1 * (y a).val := rfl
    have h0 : win0_2.index t a = 0 := by rw [index2]; fin_cases a <;> rfl
    rw [hb, h0]
    show (y a).val = _
    omega
  · refine ⟨⟨287, by rw [show cfg0.N = 288 from N_0]; decide⟩, (flush0_2 _).2 rfl, ?_⟩
    rw [mem_blk2, index2]
    intro a
    have h0 : (i 0).val < 8 := (i 0).isLt
    have h1 : (i 1).val < 128 := (i 1).isLt
    match a with
    | ⟨0, _⟩ => exact ⟨by show 0 * 8 ≤ (i 0).val; omega, by show (i 0).val < 0 * 8 + 8; omega⟩
    | ⟨1, _⟩ => exact ⟨by show 0 * 128 ≤ (i 1).val; omega, by show (i 1).val < 0 * 128 + 128; omega⟩

/-- The run, read at the result: what the last point makes of the scratch. -/
theorem run : θ_run defs (onTc (τ := τ) (main (F := Ideal))) ⟨m, fun _ => 0, ρ⟩ fun r => ∀ c : Dev nD,
      r.2.mem ((c : Thread nD τ).loc main_v1) = Amax.fin (acc m c 288) :=
  (θ_run defs _ _).mono (fun r h c => ((h.1 c).1 2).trans (final_of m c _ fun t ht => by rw [after0_2, ht])) (run_main m ρ)

end Cert.DyAmaxIdeal.Run

end
-- ==== Proof.DyAmaxValue.lean ====
/- What the call `dy_amax` and its reference compute over the extended reals: the scale of the largest absolute value of the transformed array. -/
module

public import proofs.«01_k».proof.Defs
public import proofs.«01_k».proof.Proof.AmaxValue
public import proofs.«01_k».proof.Proof.DyAmaxRun
public import proofs.«01_k».proof.Proof.Gen.DyAmaxRefIdeal.Run
public import proofs.«01_k».proof.Proof.Gen.DyAmaxRefIdeal.Read
public import proofs.«01_k».proof.Proof.XAmaxValue
public import Idealize.ShloMosaic.Lib.Pipeline.Value
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.DyAmaxIdeal.RefValue

open Cert.DyAmaxIdeal Cert.DyAmaxIdeal.Gen Cert.DyAmaxIdeal.Run
open Cert.Amax (at2 sgn scale amax)

variable (m : (ℓ : Loc nD τ sig) → Buf (Elt Ideal) ℓ)

theorem reshaped (c : Dev nD) : V m c main_v0 = shapeCast _ (m ((c : Thread nD τ).loc main_arg0)) shapeCasts_S6x1024x18432_S6144x18432 := by
  rfl

/-- The index maps in closed form. -/
theorem idx_facts : ∀ t : Fin cfg0.N,
    win0_0.index t 0 = 0 ∧ win0_1.index t 0 = t.val / 144 ∧ win0_1.index t 1 = t.val % 144 :=
  (by decide +kernel : ∀ t : Fin grid0.N, _)

/-- An entry of a block, in the whole array. -/
theorem block_entry (c : Dev nD) (t : Fin cfg0.N) (n : ℕ) (hn : n < 3072) (l : Fin 128) (b : Fin 6) (r : ℕ) (hr : r < 1024) (d : Fin 18432)
    (hR : t.val / 144 * 3072 + n = b.val * 1024 + r) (hd : d.val = t.val % 144 * 128 + l.val) :
    at2 (iblk m c 1 t) n l = m ((c : Thread nD τ).loc main_arg0) (ix3 b (Fin.ofNat 1024 r) d) := by
  obtain ⟨h0, h10, h11⟩ := idx_facts t
  show V m c main_v0 (((cfg0.win 1).blk t).view.emb (ix2 (Fin.ofNat 3072 n) l)) = _
  rw [reshaped]
  refine shapeCast_apply _ _ _ _ ?_
  have hR' : t.val / 144 * 3072 + n < 6144 := by have := b.isLt; omega
  have e : ((cfg0.win 1).blk t).view.emb (ix2 (Fin.ofNat 3072 n) l) = (ix2 (⟨t.val / 144 * 3072 + n, hR'⟩ : Fin 6144) d : S6144x18432.Idx) :=
    Shape.idx_ext₂ (show win0_1.index t 0 * 3072 + 1 * (n % 3072) = _ by rw [h10, Nat.mod_eq_of_lt hn]; simp)
      (show win0_1.index t 1 * 128 + 1 * l.val = d.val by rw [h11, hd]; simp)
  rw [e]
  show (S6x1024x18432.rowMajor (ix3 b (Fin.ofNat 1024 r) d)).val = (S6144x18432.rowMajor (ix2 (⟨t.val / 144 * 3072 + n, hR'⟩ : Fin 6144) d)).val
  rw [Shape.rowMajor_val_three, Shape.rowMajor_val_two]
  show (b.val * 1024 + r % 1024) * 18432 + d.val = (t.val / 144 * 3072 + n) * 18432 + d.val
  rw [Nat.mod_eq_of_lt hr, hR]

/-- The signs that a point reads are all of them. -/
theorem sign_block (c : Dev nD) (t : Fin cfg0.N) : (iblk m c 0 t : Vec Ideal Amax.S16 .f32) = m ((c : Thread nD τ).loc main_arg1) := by
  obtain ⟨h0, h10, h11⟩ := idx_facts t
  funext y
  show V m c main_arg1 (((cfg0.win 0).blk t).view.emb y) = _
  rw [V_main_arg1]
  refine congrArg (m ((c : Thread nD τ).loc main_arg1)) (funext fun (a : Fin 1) => ?_)
  obtain rfl : a = 0 := Subsingleton.elim _ _
  exact Fin.ext (show win0_0.index t 0 * 16 + 1 * (y 0).val = (y 0).val by rw [h0]; simp)

/-- The blocks that the grid reads. -/
def blocks (c : Dev nD) : Amax.Blocks cfg0.N 18432 (m ((c : Thread nD τ).loc main_arg0)) (fun t => iblk m c 1 t) where
  nb := 144
  features := rfl
  pos := by decide
  p t := t.val / 144
  q t := t.val % 144
  p_lt t := by have ht : t.val < 288 := lt_of_lt_of_eq t.isLt N_0; omega
  q_lt t := by omega
  onto i j hi hj := ⟨⟨i * 144 + j, by rw [show cfg0.N = 288 from N_0]; omega⟩, by dsimp only; omega, by dsimp only; omega⟩
  entry t n hn l b r hr d hR hd := block_entry m c t n hn l b r hr d hR hd

/-- The result of the whole run. -/
theorem result (c : Dev nD) : Amax.fin (acc m c 288)
    = fun _ => scale (amax (m ((c : Thread nD τ).loc main_arg0)) (m ((c : Thread nD τ).loc main_arg1))) := by
  rw [← show cfg0.N = 288 from N_0]
  exact Amax.result (blocks m c) (m ((c : Thread nD τ).loc main_arg1)) (fun t => iblk m c 0 t) (sign_block m c)

end Cert.DyAmaxIdeal.RefValue

namespace Cert.DyAmaxRefIdeal.RefValue

open Cert.DyAmaxRefIdeal Cert.DyAmaxRefIdeal.Gen
open Cert.Amax (scale signed amax amax_le_iff quarter negInf)

theorem x_entry (x0 : (⟨S6x1024x18432, .bf16⟩ : BufTy).Contents (Elt Ideal)) (d : Fin 18432) (b : Fin 6) (k : Fin 64) (i j : Fin 16) :
    Read.val_main_v20 (F := Ideal) x0 (Read.lidx_main_v21 (Read.idx_main_v22 (ix4 d b k i)) j) = x0 (ix3 b (Fin.ofNat 1024 (16 * k.val + j.val)) d) := by
  rw [Read.val_main_v20_apply, Read.val_main_v19_apply]
  refine congrArg x0 (funext fun a => ?_)
  match a with
  | ⟨0, _⟩ => exact Fin.ext (show (((b.val * 64 + k.val) * 16 + j.val) * 18432 + d.val) / 18874368 = b.val by omega)
  | ⟨1, _⟩ => exact Fin.ext (show (((b.val * 64 + k.val) * 16 + j.val) * 18432 + d.val) / 18432 % 1024 = (16 * k.val + j.val) % 1024 by omega)
  | ⟨2, _⟩ => exact Fin.ext (show (((b.val * 64 + k.val) * 16 + j.val) * 18432 + d.val) % 18432 = d.val by omega)

/-- The signed matrix is that of the other call's reference. -/
theorem q_entry (x1 : (⟨S16, .f32⟩ : BufTy).Contents (Elt Ideal)) (i j : Fin 16) :
    Read.val_main_v18 (F := Ideal) x1 (ix2 i j) = (((Hadamard.sign i.val j.val : ℝ) : EReal) * x1 (ix1 j)) * (((1 : ℝ) / 4 : ℝ) : EReal) :=
  Cert.XAmaxRefIdeal.RefValue.q_entry x1 i j

theorem ref_entry (x0 : (⟨S6x1024x18432, .bf16⟩ : BufTy).Contents (Elt Ideal)) (x1 : (⟨S16, .f32⟩ : BufTy).Contents (Elt Ideal)) (d : Fin 18432) (b : Fin 6) (k : Fin 64) (i : Fin 16) :
    Read.val_main_v23 (F := Ideal) x0 x1 (ix4 d b k i) = Hadamard.abs (Hadamard.row (signed x0 x1 b k d) i.val) := by
  rw [Read.val_main_v23_apply, Read.val_main_v22_apply, Read.val_main_v21_apply]
  have e : ∀ j : Fin 16, Read.val_main_v20 (F := Ideal) x0 (Read.lidx_main_v21 (Read.idx_main_v22 (ix4 d b k i)) j)
      * Read.val_main_v18 (F := Ideal) x1 (Read.ridx_main_v21 (Read.idx_main_v22 (ix4 d b k i)) j)
      = (((Hadamard.sign i.val j.val : ℝ) / 4 : ℝ) : EReal) * signed x0 x1 b k d j.val := by
    intro j
    have er : Read.ridx_main_v21 (Read.idx_main_v22 (ix4 d b k i)) j = ix2 i j := Shape.idx_ext₂ rfl rfl
    have ej : (Fin.ofNat 16 j.val) = j := Fin.ext (Nat.mod_eq_of_lt j.isLt)
    rw [er, x_entry, q_entry]
    unfold signed
    rw [ej, show ((Hadamard.sign i.val j.val : ℝ) / 4 : ℝ) = (Hadamard.sign i.val j.val : ℝ) * ((1 : ℝ) / 4) by ring, EReal.coe_mul]
    generalize ((Hadamard.sign i.val j.val : ℝ) : EReal) = u
    generalize (((1 : ℝ) / 4 : ℝ) : EReal) = q
    have ac : ∀ x s : EReal, x * (u * s * q) = u * q * (x * s) := fun x s => by ac_rfl
    exact ac _ _
  simp only [e]
  rfl

theorem ref_amax (x0 : (⟨S6x1024x18432, .bf16⟩ : BufTy).Contents (Elt Ideal)) (x1 : (⟨S16, .f32⟩ : BufTy).Contents (Elt Ideal)) (y : S_.Idx) :
    Read.val_main_v24 (F := Ideal) x0 x1 y = amax x0 x1 := by
  unfold Read.val_main_v24
  rw [Host.reduce_eq_fold]
  refine eq_of_forall_ge_iff (α := EReal) fun z => ?_
  rw [amax_le_iff]
  refine Iff.trans (Finset.fold_max_le (β := EReal) z) ?_
  rw [show Read.val_main_cst_2 (F := Ideal) (Shape.Idx.first h_S_) = (⊥ : EReal) from negInf]
  constructor
  · intro h b k d i
    rw [← ref_entry]
    exact h.2 (ix4 d b k i) (Finset.mem_filter.2 ⟨Finset.mem_univ _, funext fun a => a.elim0⟩)
  · refine fun h => ⟨bot_le, fun w _ => ?_⟩
    obtain ⟨d, b, k, i, rfl⟩ : ∃ (d : Fin 18432) (b : Fin 6) (k : Fin 64) (i : Fin 16), w = ix4 d b k i := ⟨_, _, _, _, eq_ix4 w⟩
    rw [ref_entry]
    exact h b k d i

/-- The reference's composed term: the scale of the largest absolute value, everywhere. -/
theorem ref_eq (x0 : (⟨S6x1024x18432, .bf16⟩ : BufTy).Contents (Elt Ideal)) (x1 : (⟨S16, .f32⟩ : BufTy).Contents (Elt Ideal)) :
    Read.val_main_v30 (F := Ideal) x0 x1 = fun _ => scale (amax x0 x1) := by
  funext y
  rw [Read.val_main_v30_apply, Read.val_main_v29_apply]
  unfold Read.val_main_v28
  rw [shapeCast_apply _ _ _ (Shape.Idx.first h_S_) (by decide +revert), Read.val_main_v27_apply, Read.val_main_v25_apply, Read.val_main_v26_apply, Read.val_main_call0_v0_apply, ref_amax]
  generalize amax x0 x1 = a
  pointwise [Read.val_main_cst_3, Read.val_main_cst_4, Read.val_main_cst_5]
  rfl

end Cert.DyAmaxRefIdeal.RefValue

end
-- ==== Proof.XScalesUnits.lean ====
/- What the body of the call `x_quant` computes as the block scales of one unit of 128 tokens, over the extended reals. -/
module

public import proofs.«01_k».proof.Proof.Gen.XScalesIdeal.Skeleton
public import proofs.«01_k».proof.Proof.Hadamard
public import Idealize.ShloMosaic.Lib.Pointwise

@[expose] public section

set_option maxRecDepth 65536

noncomputable section

namespace Cert.Scales

open Cert.XScalesIdeal Cert.XScalesIdeal.Gen
open Idealize.ShloMosaic Idealize.ShloMosaic.TcCoe
open Idealize.SL.Sem

variable {F : FTy → Type} [FloatOps F]

/-- Row `n`, column `l` of a block. -/
abbrev at2 (x : Vec F S1024x128 .bf16) (n : ℕ) (l : Fin 128) : Elt F .bf16 := x (ix2 (Fin.ofNat 1024 n) l)

/-- Every eighth pair of rows of a block: sublane `a`, half `p` is row `b + 16 * a + (m + p)`. -/
def raw (x : Vec F S1024x128 .bf16) (b m : ℕ) : Vec F S8x2x128 .bf16 := fun j => at2 x (b + 16 * (j 0).val + (m + (j 1).val)) (j 2)

/-! ## The units, as the body computes them -/

/-- What the body computes as the scales of unit 0: of the global scale, of the sixteen signs and of the unit's eight reads of every eighth pair of rows. -/
def unit0 (t : FVec F S8x128 .f32) (s0 s1 s2 s3 s4 s5 s6 s7 s8 s9 s10 s11 s12 s13 s14 s15 : Elt F .f32) (w0 w1 w2 w3 w4 w5 w6 w7 : Vec F S8x2x128 .bf16) : FVec F S8x128 .f32 :=
  have v1 := k0_pay5 t
  have v42_lo := k0_pay14 w4
  have v102 := k0_pay30 s8 v42_lo
  have v42_hi := k0_pay15 w4
  have v107 := k0_pay31 s9 v42_hi
  have v47_lo := k0_pay16 w5
  have v112 := k0_pay32 s10 v47_lo
  have v47_hi := k0_pay17 w5
  have v117 := k0_pay33 s11 v47_hi
  have v163 := k0_pay63 v102 v107 v112 v117
  have v164 := k0_pay64 v102 v107 v112 v117
  have v165 := k0_pay65 v102 v107 v112 v117
  have v52_lo := k0_pay18 w6
  have v52_hi := k0_pay19 w6
  have v57_lo := k0_pay20 w7
  have v57_hi := k0_pay21 w7
  have v167 := k0_pay67 s12 s13 s14 s15 v52_lo v52_hi v57_lo v57_hi
  have v168 := k0_pay68 s12 s13 s14 s15 v52_lo v52_hi v57_lo v57_hi
  have v169 := k0_pay69 s12 s13 s14 s15 v52_lo v52_hi v57_lo v57_hi
  have v22_lo := k0_pay6 w0
  have v62 := k0_pay22 s0 v22_lo
  have v22_hi := k0_pay7 w0
  have v67 := k0_pay23 s1 v22_hi
  have v27_lo := k0_pay8 w1
  have v72 := k0_pay24 s2 v27_lo
  have v27_hi := k0_pay9 w1
  have v77 := k0_pay25 s3 v27_hi
  have v32_lo := k0_pay10 w2
  have v82 := k0_pay26 s4 v32_lo
  have v32_hi := k0_pay11 w2
  have v87 := k0_pay27 s5 v32_hi
  have v37_lo := k0_pay12 w3
  have v92 := k0_pay28 s6 v37_lo
  have v37_hi := k0_pay13 w3
  have v97 := k0_pay29 s7 v37_hi
  have v170 := k0_pay70 v62 v67 v72 v77 v82 v87 v92 v97
  have v171 := k0_pay71 v62 v67 v72 v77 v82 v87 v92 v97
  have v172 := k0_pay72 v62 v67 v72 v77 v82 v87 v92 v97
  have v173 := k0_pay73 v62 v67 v72 v77 v82 v87 v92 v97
  have v174 := k0_pay74 v62 v67 v72 v77 v82 v87 v92 v97
  have v175 := k0_pay75 v62 v67 v72 v77 v82 v87 v92 v97
  have v176 := k0_pay76 v62 v67 v72 v77 v82 v87 v92 v97
  have v177 := k0_pay77 v62 v67 v72 v77 v82 v87 v92 v97
  have v178 := k0_pay78 s12 s13 s14 s15 v52_lo v52_hi v57_lo v57_hi v102 v107 v112 v117
  have v179 := k0_pay79 s12 s13 s14 s15 v52_lo v52_hi v57_lo v57_hi v102 v107 v112 v117
  have v237 := k0_pay102 v1 v163 v164 v165 v167 v168 v169 v170 v171 v172 v173 v174 v175 v176 v177 v178 v179
  k0_pay103 v237

/-- What the body computes as the scales of unit 1: of the global scale, of the sixteen signs and of the unit's eight reads of every eighth pair of rows. -/
def unit1 (t : FVec F S8x128 .f32) (s0 s1 s2 s3 s4 s5 s6 s7 s8 s9 s10 s11 s12 s13 s14 s15 : Elt F .f32) (w0 w1 w2 w3 w4 w5 w6 w7 : Vec F S8x2x128 .bf16) : FVec F S8x128 .f32 :=
  have v1 := k0_pay5 t
  have v862_lo := k0_pay184 w0
  have v902 := k0_pay200 s0 v862_lo
  have v862_hi := k0_pay185 w0
  have v907 := k0_pay201 s1 v862_hi
  have v867_lo := k0_pay186 w1
  have v912 := k0_pay202 s2 v867_lo
  have v867_hi := k0_pay187 w1
  have v917 := k0_pay203 s3 v867_hi
  have v872_lo := k0_pay188 w2
  have v922 := k0_pay204 s4 v872_lo
  have v872_hi := k0_pay189 w2
  have v927 := k0_pay205 s5 v872_hi
  have v877_lo := k0_pay190 w3
  have v932 := k0_pay206 s6 v877_lo
  have v877_hi := k0_pay191 w3
  have v937 := k0_pay207 s7 v877_hi
  have v1011 := k0_pay249 v902 v907 v912 v917 v922 v927 v932 v937
  have v1013 := k0_pay251 v902 v907 v912 v917 v922 v927 v932 v937
  have v1015 := k0_pay253 v902 v907 v912 v917 v922 v927 v932 v937
  have v1017 := k0_pay255 v902 v907 v912 v917 v922 v927 v932 v937
  have v897_hi := k0_pay199 w7
  have v882_lo := k0_pay192 w4
  have v942 := k0_pay208 s8 v882_lo
  have v882_hi := k0_pay193 w4
  have v947 := k0_pay209 s9 v882_hi
  have v887_lo := k0_pay194 w5
  have v952 := k0_pay210 s10 v887_lo
  have v887_hi := k0_pay195 w5
  have v957 := k0_pay211 s11 v887_hi
  have v892_lo := k0_pay196 w6
  have v962 := k0_pay212 s12 v892_lo
  have v892_hi := k0_pay197 w6
  have v967 := k0_pay213 s13 v892_hi
  have v897_lo := k0_pay198 w7
  have v972 := k0_pay214 s14 v897_lo
  have v1019 := k0_pay257 s15 v897_hi v942 v947 v952 v957 v962 v967 v972
  have v1021 := k0_pay259 s15 v897_hi v942 v947 v952 v957 v962 v967 v972
  have v1023 := k0_pay261 s15 v897_hi v942 v947 v952 v957 v962 v967 v972
  have v1025 := k0_pay263 s15 v897_hi v942 v947 v952 v957 v962 v967 v972
  have v1026 := k0_pay264 s15 v897_hi v902 v907 v912 v917 v922 v927 v932 v937 v942 v947 v952 v957 v962 v967 v972
  have v1027 := k0_pay265 s15 v897_hi v902 v907 v912 v917 v922 v927 v932 v937 v942 v947 v952 v957 v962 v967 v972
  have v1028 := k0_pay266 s15 v897_hi v902 v907 v912 v917 v922 v927 v932 v937 v942 v947 v952 v957 v962 v967 v972
  have v1029 := k0_pay267 s15 v897_hi v902 v907 v912 v917 v922 v927 v932 v937 v942 v947 v952 v957 v962 v967 v972
  have v1030 := k0_pay268 s15 v897_hi v902 v907 v912 v917 v922 v927 v932 v937 v942 v947 v952 v957 v962 v967 v972
  have v1031 := k0_pay269 s15 v897_hi v902 v907 v912 v917 v922 v927 v932 v937 v942 v947 v952 v957 v962 v967 v972
  have v1032 := k0_pay270 s15 v897_hi v902 v907 v912 v917 v922 v927 v932 v937 v942 v947 v952 v957 v962 v967 v972
  have v1033 := k0_pay271 s15 v897_hi v902 v907 v912 v917 v922 v927 v932 v937 v942 v947 v952 v957 v962 v967 v972
  k0_pay280 v1 v1011 v1013 v1015 v1017 v1019 v1021 v1023 v1025 v1026 v1027 v1028 v1029 v1030 v1031 v1032 v1033

/-- What the body computes as the scales of unit 2: of the global scale, of the sixteen signs and of the unit's eight reads of every eighth pair of rows. -/
def unit2 (t : FVec F S8x128 .f32) (s0 s1 s2 s3 s4 s5 s6 s7 s8 s9 s10 s11 s12 s13 s14 s15 : Elt F .f32) (w0 w1 w2 w3 w4 w5 w6 w7 : Vec F S8x2x128 .bf16) : FVec F S8x128 .f32 :=
  have v1 := k0_pay5 t
  have v1727_lo := k0_pay377 w5
  have v1792 := k0_pay393 s10 v1727_lo
  have v1727_hi := k0_pay378 w5
  have v1797 := k0_pay394 s11 v1727_hi
  have v1732_lo := k0_pay379 w6
  have v1802 := k0_pay395 s12 v1732_lo
  have v1732_hi := k0_pay380 w6
  have v1807 := k0_pay396 s13 v1732_hi
  have v1737_lo := k0_pay381 w7
  have v1812 := k0_pay397 s14 v1737_lo
  have v1737_hi := k0_pay382 w7
  have v1817 := k0_pay398 s15 v1737_hi
  have v1702_lo := k0_pay367 w0
  have v1742 := k0_pay383 s0 v1702_lo
  have v1702_hi := k0_pay368 w0
  have v1747 := k0_pay384 s1 v1702_hi
  have v1818 := k0_pay399 v1742 v1747
  have v1707_lo := k0_pay369 w1
  have v1752 := k0_pay385 s2 v1707_lo
  have v1707_hi := k0_pay370 w1
  have v1757 := k0_pay386 s3 v1707_hi
  have v1820 := k0_pay401 v1752 v1757
  have v1712_lo := k0_pay371 w2
  have v1762 := k0_pay387 s4 v1712_lo
  have v1712_hi := k0_pay372 w2
  have v1767 := k0_pay388 s5 v1712_hi
  have v1822 := k0_pay403 v1762 v1767
  have v1717_lo := k0_pay373 w3
  have v1717_hi := k0_pay374 w3
  have v1824 := k0_pay405 s6 s7 v1717_lo v1717_hi
  have v1722_lo := k0_pay375 w4
  have v1722_hi := k0_pay376 w4
  have v1826 := k0_pay407 s8 s9 v1722_lo v1722_hi
  have v1867 := k0_pay448 v1792 v1797 v1802 v1807 v1812 v1817 v1818 v1820 v1822 v1824 v1826
  have v1819 := k0_pay400 v1742 v1747
  have v1821 := k0_pay402 v1752 v1757
  have v1823 := k0_pay404 v1762 v1767
  have v1825 := k0_pay406 s6 s7 v1717_lo v1717_hi
  have v1827 := k0_pay408 s8 s9 v1722_lo v1722_hi
  have v1869 := k0_pay450 v1792 v1797 v1802 v1807 v1812 v1817 v1819 v1821 v1823 v1825 v1827
  have v1871 := k0_pay452 v1792 v1797 v1802 v1807 v1812 v1817 v1818 v1820 v1822 v1824 v1826
  have v1873 := k0_pay454 v1792 v1797 v1802 v1807 v1812 v1817 v1819 v1821 v1823 v1825 v1827
  have v1875 := k0_pay456 v1792 v1797 v1802 v1807 v1812 v1817 v1818 v1820 v1822 v1824 v1826
  have v1877 := k0_pay458 v1792 v1797 v1802 v1807 v1812 v1817 v1819 v1821 v1823 v1825 v1827
  have v1878 := k0_pay459 v1792 v1797 v1802 v1807 v1812 v1817 v1818 v1820 v1822 v1824 v1826
  have v1879 := k0_pay460 v1792 v1797 v1802 v1807 v1812 v1817 v1818 v1820 v1822 v1824 v1826
  have v1880 := k0_pay461 v1792 v1797 v1802 v1807 v1812 v1817 v1819 v1821 v1823 v1825 v1827
  have v1881 := k0_pay462 v1792 v1797 v1802 v1807 v1812 v1817 v1819 v1821 v1823 v1825 v1827
  have v1882 := k0_pay463 v1792 v1797 v1802 v1807 v1812 v1817 v1818 v1820 v1822 v1824 v1826
  have v1883 := k0_pay464 v1792 v1797 v1802 v1807 v1812 v1817 v1819 v1821 v1823 v1825 v1827
  have v1884 := k0_pay465 v1792 v1797 v1802 v1807 v1812 v1817 v1818 v1820 v1822 v1824 v1826
  have v1885 := k0_pay466 v1792 v1797 v1802 v1807 v1812 v1817 v1819 v1821 v1823 v1825 v1827
  have v1886 := k0_pay467 v1792 v1797 v1802 v1807 v1812 v1817 v1818 v1820 v1822 v1824 v1826
  have v1887 := k0_pay468 v1792 v1797 v1802 v1807 v1812 v1817 v1819 v1821 v1823 v1825 v1827
  k0_pay469 v1 v1867 v1869 v1871 v1873 v1875 v1877 v1878 v1879 v1880 v1881 v1882 v1883 v1884 v1885 v1886 v1887

/-- What the body computes as the scales of unit 3: of the global scale, of the sixteen signs and of the unit's eight reads of every eighth pair of rows. -/
def unit3 (t : FVec F S8x128 .f32) (s0 s1 s2 s3 s4 s5 s6 s7 s8 s9 s10 s11 s12 s13 s14 s15 : Elt F .f32) (w0 w1 w2 w3 w4 w5 w6 w7 : Vec F S8x2x128 .bf16) : FVec F S8x128 .f32 :=
  have v1 := k0_pay5 t
  have v2566_lo := k0_pay556 w0
  have v2606 := k0_pay572 s0 v2566_lo
  have v2566_hi := k0_pay557 w0
  have v2611 := k0_pay573 s1 v2566_hi
  have v2571_lo := k0_pay558 w1
  have v2616 := k0_pay574 s2 v2571_lo
  have v2571_hi := k0_pay559 w1
  have v2621 := k0_pay575 s3 v2571_hi
  have v2699 := k0_pay605 v2606 v2611 v2616 v2621
  have v2701 := k0_pay607 v2606 v2611 v2616 v2621
  have v2576_lo := k0_pay560 w2
  have v2626 := k0_pay576 s4 v2576_lo
  have v2576_hi := k0_pay561 w2
  have v2631 := k0_pay577 s5 v2576_hi
  have v2581_lo := k0_pay562 w3
  have v2636 := k0_pay578 s6 v2581_lo
  have v2581_hi := k0_pay563 w3
  have v2641 := k0_pay579 s7 v2581_hi
  have v2703 := k0_pay609 v2626 v2631 v2636 v2641
  have v2705 := k0_pay611 v2626 v2631 v2636 v2641
  have v2591_hi := k0_pay567 w5
  have v2586_lo := k0_pay564 w4
  have v2646 := k0_pay580 s8 v2586_lo
  have v2586_hi := k0_pay565 w4
  have v2651 := k0_pay581 s9 v2586_hi
  have v2591_lo := k0_pay566 w5
  have v2656 := k0_pay582 s10 v2591_lo
  have v2706 := k0_pay612 s11 v2591_hi v2646 v2651 v2656
  have v2707 := k0_pay613 s11 v2591_hi v2646 v2651 v2656
  have v2708 := k0_pay614 s11 v2591_hi v2646 v2651 v2656
  have v2709 := k0_pay615 s11 v2591_hi v2646 v2651 v2656
  have v2596_lo := k0_pay568 w6
  have v2596_hi := k0_pay569 w6
  have v2601_lo := k0_pay570 w7
  have v2601_hi := k0_pay571 w7
  have v2710 := k0_pay616 s12 s13 s14 s15 v2596_lo v2596_hi v2601_lo v2601_hi
  have v2711 := k0_pay617 s12 s13 s14 s15 v2596_lo v2596_hi v2601_lo v2601_hi
  have v2712 := k0_pay618 s12 s13 s14 s15 v2596_lo v2596_hi v2601_lo v2601_hi
  have v2713 := k0_pay619 s12 s13 s14 s15 v2596_lo v2596_hi v2601_lo v2601_hi
  have v2714 := k0_pay620 v2606 v2611 v2616 v2621 v2626 v2631 v2636 v2641
  have v2715 := k0_pay621 v2606 v2611 v2616 v2621 v2626 v2631 v2636 v2641
  have v2716 := k0_pay622 v2606 v2611 v2616 v2621 v2626 v2631 v2636 v2641
  have v2717 := k0_pay623 v2606 v2611 v2616 v2621 v2626 v2631 v2636 v2641
  have v2776 := k0_pay652 v2699 v2701 v2703 v2705 v2706 v2707 v2708 v2709 v2710 v2711 v2712 v2713 v2714 v2715 v2716 v2717
  have cst_1027 := Scalar.ofBits .f32 0x3E800000#32
  k0_pay653 v1 v2776 cst_1027

/-- What the body computes as the scales of unit 4: of the global scale, of the sixteen signs and of the unit's eight reads of every eighth pair of rows. -/
def unit4 (t : FVec F S8x128 .f32) (s0 s1 s2 s3 s4 s5 s6 s7 s8 s9 s10 s11 s12 s13 s14 s15 : Elt F .f32) (w0 w1 w2 w3 w4 w5 w6 w7 : Vec F S8x2x128 .bf16) : FVec F S8x128 .f32 :=
  have v1 := k0_pay5 t
  have v3435_lo := k0_pay740 w1
  have v3480 := k0_pay756 s2 v3435_lo
  have v3435_hi := k0_pay741 w1
  have v3485 := k0_pay757 s3 v3435_hi
  have v3440_lo := k0_pay742 w2
  have v3490 := k0_pay758 s4 v3440_lo
  have v3440_hi := k0_pay743 w2
  have v3495 := k0_pay759 s5 v3440_hi
  have v3445_lo := k0_pay744 w3
  have v3500 := k0_pay760 s6 v3445_lo
  have v3445_hi := k0_pay745 w3
  have v3505 := k0_pay761 s7 v3445_hi
  have v3430_lo := k0_pay738 w0
  have v3470 := k0_pay754 s0 v3430_lo
  have v3430_hi := k0_pay739 w0
  have v3475 := k0_pay755 s1 v3430_hi
  have v3547 := k0_pay771 v3470 v3475
  have v3585 := k0_pay809 v3480 v3485 v3490 v3495 v3500 v3505 v3547
  have v3450_lo := k0_pay746 w4
  have v3510 := k0_pay762 s8 v3450_lo
  have v3450_hi := k0_pay747 w4
  have v3515 := k0_pay763 s9 v3450_hi
  have v3455_lo := k0_pay748 w5
  have v3520 := k0_pay764 s10 v3455_lo
  have v3455_hi := k0_pay749 w5
  have v3525 := k0_pay765 s11 v3455_hi
  have v3460_lo := k0_pay750 w6
  have v3530 := k0_pay766 s12 v3460_lo
  have v3460_hi := k0_pay751 w6
  have v3535 := k0_pay767 s13 v3460_hi
  have v3465_lo := k0_pay752 w7
  have v3540 := k0_pay768 s14 v3465_lo
  have v3465_hi := k0_pay753 w7
  have v3545 := k0_pay769 s15 v3465_hi
  have v3593 := k0_pay817 v3510 v3515 v3520 v3525 v3530 v3535 v3540 v3545
  have v3546 := k0_pay770 v3470 v3475
  have v3594 := k0_pay818 v3480 v3485 v3490 v3495 v3500 v3505 v3510 v3515 v3520 v3525 v3530 v3535 v3540 v3545 v3546
  have v3595 := k0_pay819 v3480 v3485 v3490 v3495 v3500 v3505 v3510 v3515 v3520 v3525 v3530 v3535 v3540 v3545 v3546
  have v3596 := k0_pay820 v3480 v3485 v3490 v3495 v3500 v3505 v3510 v3515 v3520 v3525 v3530 v3535 v3540 v3545 v3547
  have v3597 := k0_pay821 v3480 v3485 v3490 v3495 v3500 v3505 v3510 v3515 v3520 v3525 v3530 v3535 v3540 v3545 v3547
  have v3598 := k0_pay822 v3480 v3485 v3490 v3495 v3500 v3505 v3510 v3515 v3520 v3525 v3530 v3535 v3540 v3545 v3546
  have v3599 := k0_pay823 v3480 v3485 v3490 v3495 v3500 v3505 v3510 v3515 v3520 v3525 v3530 v3535 v3540 v3545 v3546
  have v3600 := k0_pay824 v3480 v3485 v3490 v3495 v3500 v3505 v3510 v3515 v3520 v3525 v3530 v3535 v3540 v3545 v3547
  have v3601 := k0_pay825 v3480 v3485 v3490 v3495 v3500 v3505 v3510 v3515 v3520 v3525 v3530 v3535 v3540 v3545 v3547
  have v3602 := k0_pay826 v3480 v3485 v3490 v3495 v3500 v3505 v3510 v3515 v3520 v3525 v3530 v3535 v3540 v3545 v3546
  have v3603 := k0_pay827 v3480 v3485 v3490 v3495 v3500 v3505 v3510 v3515 v3520 v3525 v3530 v3535 v3540 v3545 v3546
  have v3604 := k0_pay828 v3480 v3485 v3490 v3495 v3500 v3505 v3510 v3515 v3520 v3525 v3530 v3535 v3540 v3545 v3547
  have v3605 := k0_pay829 v3480 v3485 v3490 v3495 v3500 v3505 v3510 v3515 v3520 v3525 v3530 v3535 v3540 v3545 v3547
  have v3606 := k0_pay830 v3480 v3485 v3490 v3495 v3500 v3505 v3510 v3515 v3520 v3525 v3530 v3535 v3540 v3545 v3546
  have v3607 := k0_pay831 v3480 v3485 v3490 v3495 v3500 v3505 v3510 v3515 v3520 v3525 v3530 v3535 v3540 v3545 v3546
  k0_pay834 v1 v3585 v3593 v3594 v3595 v3596 v3597 v3598 v3599 v3600 v3601 v3602 v3603 v3604 v3605 v3606 v3607

/-- What the body computes as the scales of unit 5: of the global scale, of the sixteen signs and of the unit's eight reads of every eighth pair of rows. -/
def unit5 (t : FVec F S8x128 .f32) (s0 s1 s2 s3 s4 s5 s6 s7 s8 s9 s10 s11 s12 s13 s14 s15 : Elt F .f32) (w0 w1 w2 w3 w4 w5 w6 w7 : Vec F S8x2x128 .bf16) : FVec F S8x128 .f32 :=
  have v1 := k0_pay5 t
  have v4323_lo := k0_pay939 w6
  have v4324_lo := k0_pay941 v4323_lo
  have v4323_hi := k0_pay940 w6
  have v4324_hi := k0_pay942 v4323_hi
  have v4422 := k0_pay974 s12 s13 v4324_lo v4324_hi
  have v4423 := k0_pay975 s12 s13 v4324_lo v4324_hi
  have v4329_lo := k0_pay943 w7
  have v4329_hi := k0_pay944 w7
  have v4424 := k0_pay976 s14 s15 v4329_lo v4329_hi
  have v4425 := k0_pay977 s14 s15 v4329_lo v4329_hi
  have v4293_lo := k0_pay925 w0
  have v4294_lo := k0_pay927 v4293_lo
  have v4334 := k0_pay945 s0 v4294_lo
  have v4293_hi := k0_pay926 w0
  have v4294_hi := k0_pay928 v4293_hi
  have v4339 := k0_pay946 s1 v4294_hi
  have v4299_lo := k0_pay929 w1
  have v4344 := k0_pay947 s2 v4299_lo
  have v4299_hi := k0_pay930 w1
  have v4349 := k0_pay948 s3 v4299_hi
  have v4426 := k0_pay978 v4334 v4339 v4344 v4349
  have v4428 := k0_pay980 v4334 v4339 v4344 v4349
  have v4304_lo := k0_pay931 w2
  have v4354 := k0_pay949 s4 v4304_lo
  have v4304_hi := k0_pay932 w2
  have v4359 := k0_pay950 s5 v4304_hi
  have v4309_lo := k0_pay933 w3
  have v4364 := k0_pay951 s6 v4309_lo
  have v4309_hi := k0_pay934 w3
  have v4369 := k0_pay952 s7 v4309_hi
  have v4430 := k0_pay982 v4354 v4359 v4364 v4369
  have v4432 := k0_pay984 v4354 v4359 v4364 v4369
  have v4319_lo := k0_pay937 w5
  have v4319_hi := k0_pay938 w5
  have v4314_lo := k0_pay935 w4
  have v4374 := k0_pay953 s8 v4314_lo
  have v4314_hi := k0_pay936 w4
  have v4377 := k0_pay954 v4314_hi
  have v4434 := k0_pay986 s9 s10 s11 v4319_lo v4319_hi v4374 v4377
  have v4436 := k0_pay988 s9 s10 s11 v4319_lo v4319_hi v4374 v4377
  have v4490 := k0_pay1026 v4422 v4423 v4424 v4425 v4426 v4428 v4430 v4432 v4434 v4436
  have v4427 := k0_pay979 v4334 v4339 v4344 v4349
  have v4429 := k0_pay981 v4334 v4339 v4344 v4349
  have v4431 := k0_pay983 v4354 v4359 v4364 v4369
  have v4433 := k0_pay985 v4354 v4359 v4364 v4369
  have v4435 := k0_pay987 s9 s10 s11 v4319_lo v4319_hi v4374 v4377
  have v4437 := k0_pay989 s9 s10 s11 v4319_lo v4319_hi v4374 v4377
  have v4491 := k0_pay1027 v4422 v4423 v4424 v4425 v4427 v4429 v4431 v4433 v4435 v4437
  have v4492 := k0_pay1028 v4422 v4423 v4424 v4425 v4426 v4428 v4430 v4432 v4434 v4436
  have v4493 := k0_pay1029 v4422 v4423 v4424 v4425 v4427 v4429 v4431 v4433 v4435 v4437
  have v4494 := k0_pay1030 v4422 v4423 v4424 v4425 v4426 v4428 v4430 v4432 v4434 v4436
  have v4495 := k0_pay1031 v4422 v4423 v4424 v4425 v4427 v4429 v4431 v4433 v4435 v4437
  have v4496 := k0_pay1032 v4422 v4423 v4424 v4425 v4426 v4428 v4430 v4432 v4434 v4436
  have v4497 := k0_pay1033 v4422 v4423 v4424 v4425 v4427 v4429 v4431 v4433 v4435 v4437
  k0_pay1034 v1 v4490 v4491 v4492 v4493 v4494 v4495 v4496 v4497

/-- What the body computes as the scales of unit 6: of the global scale, of the sixteen signs and of the unit's eight reads of every eighth pair of rows. -/
def unit6 (t : FVec F S8x128 .f32) (s0 s1 s2 s3 s4 s5 s6 s7 s8 s9 s10 s11 s12 s13 s14 s15 : Elt F .f32) (w0 w1 w2 w3 w4 w5 w6 w7 : Vec F S8x2x128 .bf16) : FVec F S8x128 .f32 :=
  have v1 := k0_pay5 t
  have v5158_lo := k0_pay1123 w0
  have v5198 := k0_pay1139 s0 v5158_lo
  have v5158_hi := k0_pay1124 w0
  have v5203 := k0_pay1140 s1 v5158_hi
  have v5163_lo := k0_pay1125 w1
  have v5206 := k0_pay1141 v5163_lo
  have v5207 := k0_pay1142 s2
  have v5208 := k0_pay1143 v5206 v5207
  have v5163_hi := k0_pay1126 w1
  have v5213 := k0_pay1144 s3 v5163_hi
  have v5168_lo := k0_pay1127 w2
  have v5218 := k0_pay1145 s4 v5168_lo
  have v5168_hi := k0_pay1128 w2
  have v5223 := k0_pay1146 s5 v5168_hi
  have v5173_lo := k0_pay1129 w3
  have v5228 := k0_pay1147 s6 v5173_lo
  have v5173_hi := k0_pay1130 w3
  have v5233 := k0_pay1148 s7 v5173_hi
  have v5307 := k0_pay1192 v5198 v5203 v5208 v5213 v5218 v5223 v5228 v5233
  have v5309 := k0_pay1194 v5198 v5203 v5208 v5213 v5218 v5223 v5228 v5233
  have v5311 := k0_pay1196 v5198 v5203 v5208 v5213 v5218 v5223 v5228 v5233
  have v5312 := k0_pay1197 v5198 v5203 v5208 v5213 v5218 v5223 v5228 v5233
  have v5313 := k0_pay1198 v5198 v5203 v5208 v5213 v5218 v5223 v5228 v5233
  have v5193_hi := k0_pay1138 w7
  have v5178_lo := k0_pay1131 w4
  have v5238 := k0_pay1149 s8 v5178_lo
  have v5178_hi := k0_pay1132 w4
  have v5243 := k0_pay1150 s9 v5178_hi
  have v5183_lo := k0_pay1133 w5
  have v5248 := k0_pay1151 s10 v5183_lo
  have v5183_hi := k0_pay1134 w5
  have v5253 := k0_pay1152 s11 v5183_hi
  have v5188_lo := k0_pay1135 w6
  have v5258 := k0_pay1153 s12 v5188_lo
  have v5188_hi := k0_pay1136 w6
  have v5263 := k0_pay1154 s13 v5188_hi
  have v5193_lo := k0_pay1137 w7
  have v5266 := k0_pay1155 v5193_lo
  have v5267 := k0_pay1156 s14
  have v5315 := k0_pay1200 s15 v5193_hi v5238 v5243 v5248 v5253 v5258 v5263 v5266 v5267
  have v5317 := k0_pay1202 s15 v5193_hi v5238 v5243 v5248 v5253 v5258 v5263 v5266 v5267
  have v5319 := k0_pay1204 s15 v5193_hi v5238 v5243 v5248 v5253 v5258 v5263 v5266 v5267
  have v5320 := k0_pay1205 s15 v5193_hi v5238 v5243 v5248 v5253 v5258 v5263 v5266 v5267
  have v5321 := k0_pay1206 s15 v5193_hi v5238 v5243 v5248 v5253 v5258 v5263 v5266 v5267
  have v5322 := k0_pay1207 s15 v5193_hi v5198 v5203 v5208 v5213 v5218 v5223 v5228 v5233 v5238 v5243 v5248 v5253 v5258 v5263 v5266 v5267
  have v5323 := k0_pay1208 s15 v5193_hi v5198 v5203 v5208 v5213 v5218 v5223 v5228 v5233 v5238 v5243 v5248 v5253 v5258 v5263 v5266 v5267
  have v5324 := k0_pay1209 s15 v5193_hi v5198 v5203 v5208 v5213 v5218 v5223 v5228 v5233 v5238 v5243 v5248 v5253 v5258 v5263 v5266 v5267
  have v5325 := k0_pay1210 s15 v5193_hi v5198 v5203 v5208 v5213 v5218 v5223 v5228 v5233 v5238 v5243 v5248 v5253 v5258 v5263 v5266 v5267
  have v5326 := k0_pay1211 s15 v5193_hi v5198 v5203 v5208 v5213 v5218 v5223 v5228 v5233 v5238 v5243 v5248 v5253 v5258 v5263 v5266 v5267
  have v5327 := k0_pay1212 s15 v5193_hi v5198 v5203 v5208 v5213 v5218 v5223 v5228 v5233 v5238 v5243 v5248 v5253 v5258 v5263 v5266 v5267
  k0_pay1223 v1 v5307 v5309 v5311 v5312 v5313 v5315 v5317 v5319 v5320 v5321 v5322 v5323 v5324 v5325 v5326 v5327

/-- What the body computes as the scales of unit 7: of the global scale, of the sixteen signs and of the unit's eight reads of every eighth pair of rows. -/
def unit7 (t : FVec F S8x128 .f32) (s0 s1 s2 s3 s4 s5 s6 s7 s8 s9 s10 s11 s12 s13 s14 s15 : Elt F .f32) (w0 w1 w2 w3 w4 w5 w6 w7 : Vec F S8x2x128 .bf16) : FVec F S8x128 .f32 :=
  have v1 := k0_pay5 t
  have v6148_lo := k0_pay1321 w6
  have v6218 := k0_pay1337 s12 v6148_lo
  have v6148_hi := k0_pay1322 w6
  have v6223 := k0_pay1338 s13 v6148_hi
  have v6153_lo := k0_pay1323 w7
  have v6228 := k0_pay1339 s14 v6153_lo
  have v6153_hi := k0_pay1324 w7
  have v6233 := k0_pay1340 s15 v6153_hi
  have v6118_lo := k0_pay1309 w0
  have v6158 := k0_pay1325 s0 v6118_lo
  have v6118_hi := k0_pay1310 w0
  have v6163 := k0_pay1326 s1 v6118_hi
  have v6234 := k0_pay1341 v6158 v6163
  have v6123_lo := k0_pay1311 w1
  have v6168 := k0_pay1327 s2 v6123_lo
  have v6123_hi := k0_pay1312 w1
  have v6173 := k0_pay1328 s3 v6123_hi
  have v6236 := k0_pay1343 v6168 v6173
  have v6128_lo := k0_pay1313 w2
  have v6178 := k0_pay1329 s4 v6128_lo
  have v6128_hi := k0_pay1314 w2
  have v6183 := k0_pay1330 s5 v6128_hi
  have v6238 := k0_pay1345 v6178 v6183
  have v6133_lo := k0_pay1315 w3
  have v6133_hi := k0_pay1316 w3
  have v6240 := k0_pay1347 s6 s7 v6133_lo v6133_hi
  have v6138_lo := k0_pay1317 w4
  have v6138_hi := k0_pay1318 w4
  have v6242 := k0_pay1349 s8 s9 v6138_lo v6138_hi
  have v6143_lo := k0_pay1319 w5
  have v6143_hi := k0_pay1320 w5
  have v6244 := k0_pay1351 s10 s11 v6143_lo v6143_hi
  have v6283 := k0_pay1390 v6218 v6223 v6228 v6233 v6234 v6236 v6238 v6240 v6242 v6244
  have v6235 := k0_pay1342 v6158 v6163
  have v6237 := k0_pay1344 v6168 v6173
  have v6239 := k0_pay1346 v6178 v6183
  have v6241 := k0_pay1348 s6 s7 v6133_lo v6133_hi
  have v6243 := k0_pay1350 s8 s9 v6138_lo v6138_hi
  have v6245 := k0_pay1352 s10 s11 v6143_lo v6143_hi
  have v6285 := k0_pay1392 v6218 v6223 v6228 v6233 v6235 v6237 v6239 v6241 v6243 v6245
  have v6287 := k0_pay1394 v6218 v6223 v6228 v6233 v6234 v6236 v6238 v6240 v6242 v6244
  have v6289 := k0_pay1396 v6218 v6223 v6228 v6233 v6235 v6237 v6239 v6241 v6243 v6245
  have v6291 := k0_pay1398 v6218 v6223 v6228 v6233 v6234 v6236 v6238 v6240 v6242 v6244
  have v6293 := k0_pay1400 v6218 v6223 v6228 v6233 v6235 v6237 v6239 v6241 v6243 v6245
  have v6295 := k0_pay1402 v6218 v6223 v6228 v6233 v6234 v6236 v6238 v6240 v6242 v6244
  have v6297 := k0_pay1404 v6218 v6223 v6228 v6233 v6235 v6237 v6239 v6241 v6243 v6245
  have v6298 := k0_pay1405 v6218 v6223 v6228 v6233 v6234 v6236 v6238 v6240 v6242 v6244
  have v6299 := k0_pay1406 v6218 v6223 v6228 v6233 v6235 v6237 v6239 v6241 v6243 v6245
  have v6300 := k0_pay1407 v6218 v6223 v6228 v6233 v6234 v6236 v6238 v6240 v6242 v6244
  have v6301 := k0_pay1408 v6218 v6223 v6228 v6233 v6235 v6237 v6239 v6241 v6243 v6245
  have v6302 := k0_pay1409 v6218 v6223 v6228 v6233 v6234 v6236 v6238 v6240 v6242 v6244
  have v6303 := k0_pay1410 v6218 v6223 v6228 v6233 v6235 v6237 v6239 v6241 v6243 v6245
  have v6304 := k0_pay1411 v6218 v6223 v6228 v6233 v6234 v6236 v6238 v6240 v6242 v6244
  have v6305 := k0_pay1412 v6218 v6223 v6228 v6233 v6235 v6237 v6239 v6241 v6243 v6245
  k0_pay1413 v1 v6283 v6285 v6287 v6289 v6291 v6293 v6295 v6297 v6298 v6299 v6300 v6301 v6302 v6303 v6304 v6305

/-! ## One unit -/

/-- The block scale that a largest absolute value and the global scale give: their quotient by six, within the range of the eight-bit format. -/
def clip (a t : EReal) : EReal := min (Ideal.ofBits .f32 0x43E00000#32) (max 0 (Ideal.div a (Ideal.ofBits .f32 0x40C00000#32 * t)))

theorem absf_eq (x : EReal) : FloatOps.absf (F := Ideal) (φ := .f32) x = Hadamard.abs x := rfl

set_option maxHeartbeats 4000000 in
/-- The scales of a unit: a quarter of the largest absolute value among the sixteen transformed rows, over six times the global scale, clipped. -/
theorem unit0_apply (t : Vec Ideal S8x128 .f32) (sg : ℕ → Elt Ideal .f32) (x : Vec Ideal S1024x128 .bf16) (n : ℕ) (a : Fin 8) (l : Fin 128) :
    unit0 t (sg 0) (sg 1) (sg 2) (sg 3) (sg 4) (sg 5) (sg 6) (sg 7) (sg 8) (sg 9) (sg 10) (sg 11) (sg 12) (sg 13) (sg 14) (sg 15) (raw x n 0) (raw x n 2) (raw x n 4) (raw x n 6) (raw x n 8) (raw x n 10) (raw x n 12) (raw x n 14) (ix2 a l)
      = clip (Hadamard.peak (fun j => at2 x (n + 16 * a.val + j) l * sg j) * Ideal.ofBits .f32 0x3E800000#32) (t (ix2 a l)) := by
  unfold unit0
  pointwise [raw, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103]
  show clip (_ * Ideal.ofBits .f32 0x3E800000#32) (t (ix2 a l)) = _
  refine congrArg (fun z => clip (z * Ideal.ofBits .f32 0x3E800000#32) (t (ix2 a l))) ?_
  · refine eq_of_forall_ge_iff (α := EReal) fun z => ?_
    refine Iff.trans ?_ ((Hadamard.peak_le_iff _ z).trans (Hadamard.forall_sixteen (fun i => Hadamard.abs (Hadamard.transform _ i) ≤ z))).symm
    simp only [Hadamard.transform, Hadamard.butterfly, Nat.reduceDiv, Nat.reduceMod, Nat.reduceAdd, Nat.reduceSub, if_true, Nat.one_ne_zero, if_false, absf_eq, add_zero]
    generalize n + 16 * a.val = b
    generalize at2 x (b) l * sg 0 = p0
    generalize at2 x (b + 1) l * sg 1 = p1
    generalize at2 x (b + 2) l * sg 2 = p2
    generalize at2 x (b + 3) l * sg 3 = p3
    generalize at2 x (b + 4) l * sg 4 = p4
    generalize at2 x (b + 5) l * sg 5 = p5
    generalize at2 x (b + 6) l * sg 6 = p6
    generalize at2 x (b + 7) l * sg 7 = p7
    generalize at2 x (b + 8) l * sg 8 = p8
    generalize at2 x (b + 9) l * sg 9 = p9
    generalize at2 x (b + 10) l * sg 10 = p10
    generalize at2 x (b + 11) l * sg 11 = p11
    generalize at2 x (b + 12) l * sg 12 = p12
    generalize at2 x (b + 13) l * sg 13 = p13
    generalize at2 x (b + 14) l * sg 14 = p14
    generalize at2 x (b + 15) l * sg 15 = p15
    simp only [max_le_iff, and_assoc]

theorem unit1_eq : unit1 (F := F) = unit0 := rfl

theorem unit2_eq : unit2 (F := F) = unit0 := rfl

theorem unit3_eq : unit3 (F := F) = unit0 := rfl

theorem unit4_eq : unit4 (F := F) = unit0 := rfl

theorem unit5_eq : unit5 (F := F) = unit0 := rfl

theorem unit6_eq : unit6 (F := F) = unit0 := rfl

theorem unit7_eq : unit7 (F := F) = unit0 := rfl

end Cert.Scales

end
-- ==== Proof.XScalesBody.lean ====
/- What a grid point of the call `x_quant` leaves of block scales, over the extended reals. -/
module

public import proofs.«01_k».proof.Proof.XScalesUnits
public import proofs.«01_k».proof.Proof.Gen.XScalesIdeal.Frame
public import Idealize.ShloMosaic.Lib.Pipeline.Value
public import Idealize.ShloMosaic.Lib.VecWindow
public import Idealize.ShloMosaic.Lib.Pointwise

@[expose] public section

set_option maxRecDepth 65536

noncomputable section

namespace Cert.Scales

open Cert.XScalesIdeal Cert.XScalesIdeal.Gen
open Idealize.ShloMosaic Idealize.ShloMosaic.TcCoe
open Idealize.SL.Sem

variable {F : FTy → Type} [FloatOps F]

/-! ## What the body reads -/

/-- The signs as a sequence. -/
abbrev sgn (s : Vec F S16 .f32) (j : ℕ) : Elt F .f32 := s (ix1 (Fin.ofNat 16 j))

/-- A sign, as the body reads it. -/
theorem sign_read (arg2 : Memref sig .tc .smem S16 .f32) (harg2 : arg2.IsWhole) (x0 : Vec F S16 .f32) (j : ℕ) (hj : j < 16) (inb) (h) :
    View.readAt (Elt F) arg2.view (Rect.unit (s := S16) ![j] S1.size inb).toLoadRect (harg2.unread x0) (Shape.Idx.first h) = sgn x0 j := by
  rw [View.readAt_apply, harg2.read_unread]
  refine congrArg x0 (funext fun b => ?_)
  have hb : b = 0 := Subsingleton.elim _ _
  subst hb
  exact Fin.ext (Nat.mod_eq_of_lt hj).symm

/-- The global scale in all places, as the body reads it. -/
def splat (arg3 : Memref sig .tc .vmem S8x128 .f32) (harg3 : arg3.IsWhole) (x1 : Vec F S8x128 .f32) : FVec F S8x128 .f32 :=
  View.readAt (Elt F) arg3.view (Rect.unit (s := S8x128) ![0, 0] S8x128.size (by decide)).toLoadRect (harg3.unread x1)

theorem splat_read (arg3 : Memref sig .tc .vmem S8x128 .f32) (harg3 : arg3.IsWhole) (x1 : Vec F S8x128 .f32) : splat arg3 harg3 x1 = x1 := by
  unfold splat
  rw [View.readAt_full, harg3.read_unread]

/-- A read of every eighth pair of rows of the block. -/
theorem raw_eq (arg4 : Memref sig .tc .vmem S1024x128 .bf16) (harg4 : arg4.IsWhole) (x : Vec F S1024x128 .bf16) (u k : ℕ) (hu : u < 8) (hk : k < 8) (o : ℕ) (ho : o = 64 * u + k) (inb) (h1) (h2) (hr) :
    View.readAt (Elt F) (arg4.reshape S512x2x128 h1 h2 hr).view (⟨![o, 0, 0], S8x2x128.size, ![8, 1, 1], inb⟩ : LoadRect S512x2x128) (harg4.unread x)
      = raw x (128 * u) (2 * k) := by
  subst ho
  funext y; obtain ⟨a, p, l, rfl⟩ : ∃ (a : Fin 8) (p : Fin 2) (l : Fin 128), y = ix3 a p l := ⟨_, _, _, eq_ix3 y⟩
  rw [View.readAt_apply]
  have h : ∀ j, (arg4.reshape S512x2x128 h1 h2 hr).view.read (Elt F) (harg4.unread x) j
      = arg4.view.read (Elt F) (harg4.unread x) (Shape.reshapeEquiv h1 j) := fun j => rfl
  rw [h, harg4.read_unread]
  refine congrArg x (Shape.reshapeEquiv_eq_of_vals _ _ _ _ _ (rowMajor_val2 _ 128 rfl) (rowMajor_val3 _ 256 128 rfl rfl) ?_)
  have h0 := a.isLt; have hp := p.isLt; have hl := l.isLt
  show (128 * u + 16 * a.val + (2 * k + p.val)) % 1024 * 128 + l.val = (64 * u + k + 8 * a.val) * 256 + (0 + 1 * p.val) * 128 + (0 + 1 * l.val)
  omega

/-! ## What the body leaves -/

/-- The scales of a unit, from what a point reads. -/
def units (u : ℕ) (x0 : Vec F S16 .f32) (x1 : Vec F S8x128 .f32) (x2 : Vec F S1024x128 .bf16) : FVec F S8x128 .f32 :=
  unit0 x1 (sgn x0 0) (sgn x0 1) (sgn x0 2) (sgn x0 3) (sgn x0 4) (sgn x0 5) (sgn x0 6) (sgn x0 7) (sgn x0 8) (sgn x0 9) (sgn x0 10) (sgn x0 11) (sgn x0 12) (sgn x0 13) (sgn x0 14) (sgn x0 15)
    (raw x2 (128 * u) 0) (raw x2 (128 * u) 2) (raw x2 (128 * u) 4) (raw x2 (128 * u) 6) (raw x2 (128 * u) 8) (raw x2 (128 * u) 10) (raw x2 (128 * u) 12) (raw x2 (128 * u) 14)

theorem run0 (c : Dev nD) (arg2 : Memref sig .tc .smem S16 .f32) (harg2 : arg2.IsWhole) (arg3 : Memref sig .tc .vmem S8x128 .f32) (harg3 : arg3.IsWhole) (arg4 : Memref sig .tc .vmem S1024x128 .bf16) (harg4 : arg4.IsWhole) (x0 : Vec F S16 .f32) (x1 : Vec F S8x128 .f32) (x2 : Vec F S1024x128 .bf16) :
    kernelRun0_A.sl.r_61 c arg2 harg2 arg3 harg3 arg4 harg4 x0 x1 x2 = units 0 x0 x1 x2 := by
  refine Eq.trans (?_ : _ = unit0 (splat arg3 harg3 x1) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0) (kernelRun0_A.sl.r_8 c arg2 harg2 x0) (kernelRun0_A.sl.r_9 c arg2 harg2 x0) (kernelRun0_A.sl.r_10 c arg2 harg2 x0) (kernelRun0_A.sl.r_11 c arg2 harg2 x0) (kernelRun0_A.sl.r_12 c arg2 harg2 x0) (kernelRun0_A.sl.r_13 c arg2 harg2 x0) (kernelRun0_A.sl.r_14 c arg2 harg2 x0) (kernelRun0_A.sl.r_15 c arg2 harg2 x0) (kernelRun0_A.sl.v21_raw c arg4 harg4 x2) (kernelRun0_A.sl.v26_raw c arg4 harg4 x2) (kernelRun0_A.sl.v31_raw c arg4 harg4 x2) (kernelRun0_A.sl.v36_raw c arg4 harg4 x2) (kernelRun0_A.sl.v41_raw c arg4 harg4 x2) (kernelRun0_A.sl.v46_raw c arg4 harg4 x2) (kernelRun0_A.sl.v51_raw c arg4 harg4 x2) (kernelRun0_A.sl.v56_raw c arg4 harg4 x2)) ?_
  · rfl
  rw [show kernelRun0_A.sl.r c arg2 harg2 x0 = sgn x0 0 from sign_read arg2 harg2 x0 0 (by decide) _ _, show kernelRun0_A.sl.r_1 c arg2 harg2 x0 = sgn x0 1 from sign_read arg2 harg2 x0 1 (by decide) _ _, show kernelRun0_A.sl.r_2 c arg2 harg2 x0 = sgn x0 2 from sign_read arg2 harg2 x0 2 (by decide) _ _, show kernelRun0_A.sl.r_3 c arg2 harg2 x0 = sgn x0 3 from sign_read arg2 harg2 x0 3 (by decide) _ _, show kernelRun0_A.sl.r_4 c arg2 harg2 x0 = sgn x0 4 from sign_read arg2 harg2 x0 4 (by decide) _ _, show kernelRun0_A.sl.r_5 c arg2 harg2 x0 = sgn x0 5 from sign_read arg2 harg2 x0 5 (by decide) _ _, show kernelRun0_A.sl.r_6 c arg2 harg2 x0 = sgn x0 6 from sign_read arg2 harg2 x0 6 (by decide) _ _, show kernelRun0_A.sl.r_7 c arg2 harg2 x0 = sgn x0 7 from sign_read arg2 harg2 x0 7 (by decide) _ _, show kernelRun0_A.sl.r_8 c arg2 harg2 x0 = sgn x0 8 from sign_read arg2 harg2 x0 8 (by decide) _ _, show kernelRun0_A.sl.r_9 c arg2 harg2 x0 = sgn x0 9 from sign_read arg2 harg2 x0 9 (by decide) _ _, show kernelRun0_A.sl.r_10 c arg2 harg2 x0 = sgn x0 10 from sign_read arg2 harg2 x0 10 (by decide) _ _, show kernelRun0_A.sl.r_11 c arg2 harg2 x0 = sgn x0 11 from sign_read arg2 harg2 x0 11 (by decide) _ _, show kernelRun0_A.sl.r_12 c arg2 harg2 x0 = sgn x0 12 from sign_read arg2 harg2 x0 12 (by decide) _ _, show kernelRun0_A.sl.r_13 c arg2 harg2 x0 = sgn x0 13 from sign_read arg2 harg2 x0 13 (by decide) _ _, show kernelRun0_A.sl.r_14 c arg2 harg2 x0 = sgn x0 14 from sign_read arg2 harg2 x0 14 (by decide) _ _, show kernelRun0_A.sl.r_15 c arg2 harg2 x0 = sgn x0 15 from sign_read arg2 harg2 x0 15 (by decide) _ _, show kernelRun0_A.sl.v21_raw c arg4 harg4 x2 = raw x2 0 0 from raw_eq arg4 harg4 x2 0 0 (by decide) (by decide) 0 rfl _ _ _ _, show kernelRun0_A.sl.v26_raw c arg4 harg4 x2 = raw x2 0 2 from raw_eq arg4 harg4 x2 0 1 (by decide) (by decide) 1 rfl _ _ _ _, show kernelRun0_A.sl.v31_raw c arg4 harg4 x2 = raw x2 0 4 from raw_eq arg4 harg4 x2 0 2 (by decide) (by decide) 2 rfl _ _ _ _, show kernelRun0_A.sl.v36_raw c arg4 harg4 x2 = raw x2 0 6 from raw_eq arg4 harg4 x2 0 3 (by decide) (by decide) 3 rfl _ _ _ _, show kernelRun0_A.sl.v41_raw c arg4 harg4 x2 = raw x2 0 8 from raw_eq arg4 harg4 x2 0 4 (by decide) (by decide) 4 rfl _ _ _ _, show kernelRun0_A.sl.v46_raw c arg4 harg4 x2 = raw x2 0 10 from raw_eq arg4 harg4 x2 0 5 (by decide) (by decide) 5 rfl _ _ _ _, show kernelRun0_A.sl.v51_raw c arg4 harg4 x2 = raw x2 0 12 from raw_eq arg4 harg4 x2 0 6 (by decide) (by decide) 6 rfl _ _ _ _, show kernelRun0_A.sl.v56_raw c arg4 harg4 x2 = raw x2 0 14 from raw_eq arg4 harg4 x2 0 7 (by decide) (by decide) 7 rfl _ _ _ _, splat_read]
  rfl

theorem run1 (c : Dev nD) (arg2 : Memref sig .tc .smem S16 .f32) (harg2 : arg2.IsWhole) (arg3 : Memref sig .tc .vmem S8x128 .f32) (harg3 : arg3.IsWhole) (arg4 : Memref sig .tc .vmem S1024x128 .bf16) (harg4 : arg4.IsWhole) (x0 : Vec F S16 .f32) (x1 : Vec F S8x128 .f32) (x2 : Vec F S1024x128 .bf16) :
    kernelRun0_A.sl.r_174 c arg2 harg2 arg3 harg3 arg4 harg4 x0 x1 x2 = units 1 x0 x1 x2 := by
  refine Eq.trans (?_ : _ = unit1 (splat arg3 harg3 x1) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0) (kernelRun0_A.sl.r_8 c arg2 harg2 x0) (kernelRun0_A.sl.r_9 c arg2 harg2 x0) (kernelRun0_A.sl.r_10 c arg2 harg2 x0) (kernelRun0_A.sl.r_11 c arg2 harg2 x0) (kernelRun0_A.sl.r_12 c arg2 harg2 x0) (kernelRun0_A.sl.r_13 c arg2 harg2 x0) (kernelRun0_A.sl.r_14 c arg2 harg2 x0) (kernelRun0_A.sl.r_15 c arg2 harg2 x0) (kernelRun0_A.sl.v861_raw c arg4 harg4 x2) (kernelRun0_A.sl.v866_raw c arg4 harg4 x2) (kernelRun0_A.sl.v871_raw c arg4 harg4 x2) (kernelRun0_A.sl.v876_raw c arg4 harg4 x2) (kernelRun0_A.sl.v881_raw c arg4 harg4 x2) (kernelRun0_A.sl.v886_raw c arg4 harg4 x2) (kernelRun0_A.sl.v891_raw c arg4 harg4 x2) (kernelRun0_A.sl.v896_raw c arg4 harg4 x2)) ?_
  · rfl
  rw [show kernelRun0_A.sl.r c arg2 harg2 x0 = sgn x0 0 from sign_read arg2 harg2 x0 0 (by decide) _ _, show kernelRun0_A.sl.r_1 c arg2 harg2 x0 = sgn x0 1 from sign_read arg2 harg2 x0 1 (by decide) _ _, show kernelRun0_A.sl.r_2 c arg2 harg2 x0 = sgn x0 2 from sign_read arg2 harg2 x0 2 (by decide) _ _, show kernelRun0_A.sl.r_3 c arg2 harg2 x0 = sgn x0 3 from sign_read arg2 harg2 x0 3 (by decide) _ _, show kernelRun0_A.sl.r_4 c arg2 harg2 x0 = sgn x0 4 from sign_read arg2 harg2 x0 4 (by decide) _ _, show kernelRun0_A.sl.r_5 c arg2 harg2 x0 = sgn x0 5 from sign_read arg2 harg2 x0 5 (by decide) _ _, show kernelRun0_A.sl.r_6 c arg2 harg2 x0 = sgn x0 6 from sign_read arg2 harg2 x0 6 (by decide) _ _, show kernelRun0_A.sl.r_7 c arg2 harg2 x0 = sgn x0 7 from sign_read arg2 harg2 x0 7 (by decide) _ _, show kernelRun0_A.sl.r_8 c arg2 harg2 x0 = sgn x0 8 from sign_read arg2 harg2 x0 8 (by decide) _ _, show kernelRun0_A.sl.r_9 c arg2 harg2 x0 = sgn x0 9 from sign_read arg2 harg2 x0 9 (by decide) _ _, show kernelRun0_A.sl.r_10 c arg2 harg2 x0 = sgn x0 10 from sign_read arg2 harg2 x0 10 (by decide) _ _, show kernelRun0_A.sl.r_11 c arg2 harg2 x0 = sgn x0 11 from sign_read arg2 harg2 x0 11 (by decide) _ _, show kernelRun0_A.sl.r_12 c arg2 harg2 x0 = sgn x0 12 from sign_read arg2 harg2 x0 12 (by decide) _ _, show kernelRun0_A.sl.r_13 c arg2 harg2 x0 = sgn x0 13 from sign_read arg2 harg2 x0 13 (by decide) _ _, show kernelRun0_A.sl.r_14 c arg2 harg2 x0 = sgn x0 14 from sign_read arg2 harg2 x0 14 (by decide) _ _, show kernelRun0_A.sl.r_15 c arg2 harg2 x0 = sgn x0 15 from sign_read arg2 harg2 x0 15 (by decide) _ _, show kernelRun0_A.sl.v861_raw c arg4 harg4 x2 = raw x2 128 0 from raw_eq arg4 harg4 x2 1 0 (by decide) (by decide) 64 rfl _ _ _ _, show kernelRun0_A.sl.v866_raw c arg4 harg4 x2 = raw x2 128 2 from raw_eq arg4 harg4 x2 1 1 (by decide) (by decide) 65 rfl _ _ _ _, show kernelRun0_A.sl.v871_raw c arg4 harg4 x2 = raw x2 128 4 from raw_eq arg4 harg4 x2 1 2 (by decide) (by decide) 66 rfl _ _ _ _, show kernelRun0_A.sl.v876_raw c arg4 harg4 x2 = raw x2 128 6 from raw_eq arg4 harg4 x2 1 3 (by decide) (by decide) 67 rfl _ _ _ _, show kernelRun0_A.sl.v881_raw c arg4 harg4 x2 = raw x2 128 8 from raw_eq arg4 harg4 x2 1 4 (by decide) (by decide) 68 rfl _ _ _ _, show kernelRun0_A.sl.v886_raw c arg4 harg4 x2 = raw x2 128 10 from raw_eq arg4 harg4 x2 1 5 (by decide) (by decide) 69 rfl _ _ _ _, show kernelRun0_A.sl.v891_raw c arg4 harg4 x2 = raw x2 128 12 from raw_eq arg4 harg4 x2 1 6 (by decide) (by decide) 70 rfl _ _ _ _, show kernelRun0_A.sl.v896_raw c arg4 harg4 x2 = raw x2 128 14 from raw_eq arg4 harg4 x2 1 7 (by decide) (by decide) 71 rfl _ _ _ _, splat_read, unit1_eq]
  rfl

theorem run2 (c : Dev nD) (arg2 : Memref sig .tc .smem S16 .f32) (harg2 : arg2.IsWhole) (arg3 : Memref sig .tc .vmem S8x128 .f32) (harg3 : arg3.IsWhole) (arg4 : Memref sig .tc .vmem S1024x128 .bf16) (harg4 : arg4.IsWhole) (x0 : Vec F S16 .f32) (x1 : Vec F S8x128 .f32) (x2 : Vec F S1024x128 .bf16) :
    kernelRun0_A.sl.r_295 c arg2 harg2 arg3 harg3 arg4 harg4 x0 x1 x2 = units 2 x0 x1 x2 := by
  refine Eq.trans (?_ : _ = unit2 (splat arg3 harg3 x1) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0) (kernelRun0_A.sl.r_8 c arg2 harg2 x0) (kernelRun0_A.sl.r_9 c arg2 harg2 x0) (kernelRun0_A.sl.r_10 c arg2 harg2 x0) (kernelRun0_A.sl.r_11 c arg2 harg2 x0) (kernelRun0_A.sl.r_12 c arg2 harg2 x0) (kernelRun0_A.sl.r_13 c arg2 harg2 x0) (kernelRun0_A.sl.r_14 c arg2 harg2 x0) (kernelRun0_A.sl.r_15 c arg2 harg2 x0) (kernelRun0_A.sl.v1701_raw c arg4 harg4 x2) (kernelRun0_A.sl.v1706_raw c arg4 harg4 x2) (kernelRun0_A.sl.v1711_raw c arg4 harg4 x2) (kernelRun0_A.sl.v1716_raw c arg4 harg4 x2) (kernelRun0_A.sl.v1721_raw c arg4 harg4 x2) (kernelRun0_A.sl.v1726_raw c arg4 harg4 x2) (kernelRun0_A.sl.v1731_raw c arg4 harg4 x2) (kernelRun0_A.sl.v1736_raw c arg4 harg4 x2)) ?_
  · rfl
  rw [show kernelRun0_A.sl.r c arg2 harg2 x0 = sgn x0 0 from sign_read arg2 harg2 x0 0 (by decide) _ _, show kernelRun0_A.sl.r_1 c arg2 harg2 x0 = sgn x0 1 from sign_read arg2 harg2 x0 1 (by decide) _ _, show kernelRun0_A.sl.r_2 c arg2 harg2 x0 = sgn x0 2 from sign_read arg2 harg2 x0 2 (by decide) _ _, show kernelRun0_A.sl.r_3 c arg2 harg2 x0 = sgn x0 3 from sign_read arg2 harg2 x0 3 (by decide) _ _, show kernelRun0_A.sl.r_4 c arg2 harg2 x0 = sgn x0 4 from sign_read arg2 harg2 x0 4 (by decide) _ _, show kernelRun0_A.sl.r_5 c arg2 harg2 x0 = sgn x0 5 from sign_read arg2 harg2 x0 5 (by decide) _ _, show kernelRun0_A.sl.r_6 c arg2 harg2 x0 = sgn x0 6 from sign_read arg2 harg2 x0 6 (by decide) _ _, show kernelRun0_A.sl.r_7 c arg2 harg2 x0 = sgn x0 7 from sign_read arg2 harg2 x0 7 (by decide) _ _, show kernelRun0_A.sl.r_8 c arg2 harg2 x0 = sgn x0 8 from sign_read arg2 harg2 x0 8 (by decide) _ _, show kernelRun0_A.sl.r_9 c arg2 harg2 x0 = sgn x0 9 from sign_read arg2 harg2 x0 9 (by decide) _ _, show kernelRun0_A.sl.r_10 c arg2 harg2 x0 = sgn x0 10 from sign_read arg2 harg2 x0 10 (by decide) _ _, show kernelRun0_A.sl.r_11 c arg2 harg2 x0 = sgn x0 11 from sign_read arg2 harg2 x0 11 (by decide) _ _, show kernelRun0_A.sl.r_12 c arg2 harg2 x0 = sgn x0 12 from sign_read arg2 harg2 x0 12 (by decide) _ _, show kernelRun0_A.sl.r_13 c arg2 harg2 x0 = sgn x0 13 from sign_read arg2 harg2 x0 13 (by decide) _ _, show kernelRun0_A.sl.r_14 c arg2 harg2 x0 = sgn x0 14 from sign_read arg2 harg2 x0 14 (by decide) _ _, show kernelRun0_A.sl.r_15 c arg2 harg2 x0 = sgn x0 15 from sign_read arg2 harg2 x0 15 (by decide) _ _, show kernelRun0_A.sl.v1701_raw c arg4 harg4 x2 = raw x2 256 0 from raw_eq arg4 harg4 x2 2 0 (by decide) (by decide) 128 rfl _ _ _ _, show kernelRun0_A.sl.v1706_raw c arg4 harg4 x2 = raw x2 256 2 from raw_eq arg4 harg4 x2 2 1 (by decide) (by decide) 129 rfl _ _ _ _, show kernelRun0_A.sl.v1711_raw c arg4 harg4 x2 = raw x2 256 4 from raw_eq arg4 harg4 x2 2 2 (by decide) (by decide) 130 rfl _ _ _ _, show kernelRun0_A.sl.v1716_raw c arg4 harg4 x2 = raw x2 256 6 from raw_eq arg4 harg4 x2 2 3 (by decide) (by decide) 131 rfl _ _ _ _, show kernelRun0_A.sl.v1721_raw c arg4 harg4 x2 = raw x2 256 8 from raw_eq arg4 harg4 x2 2 4 (by decide) (by decide) 132 rfl _ _ _ _, show kernelRun0_A.sl.v1726_raw c arg4 harg4 x2 = raw x2 256 10 from raw_eq arg4 harg4 x2 2 5 (by decide) (by decide) 133 rfl _ _ _ _, show kernelRun0_A.sl.v1731_raw c arg4 harg4 x2 = raw x2 256 12 from raw_eq arg4 harg4 x2 2 6 (by decide) (by decide) 134 rfl _ _ _ _, show kernelRun0_A.sl.v1736_raw c arg4 harg4 x2 = raw x2 256 14 from raw_eq arg4 harg4 x2 2 7 (by decide) (by decide) 135 rfl _ _ _ _, splat_read, unit2_eq]
  rfl

theorem run3 (c : Dev nD) (arg2 : Memref sig .tc .smem S16 .f32) (harg2 : arg2.IsWhole) (arg3 : Memref sig .tc .vmem S8x128 .f32) (harg3 : arg3.IsWhole) (arg4 : Memref sig .tc .vmem S1024x128 .bf16) (harg4 : arg4.IsWhole) (x0 : Vec F S16 .f32) (x1 : Vec F S8x128 .f32) (x2 : Vec F S1024x128 .bf16) :
    kernelRun0_A.sl.r_408 c arg2 harg2 arg3 harg3 arg4 harg4 x0 x1 x2 = units 3 x0 x1 x2 := by
  refine Eq.trans (?_ : _ = unit3 (splat arg3 harg3 x1) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0) (kernelRun0_A.sl.r_8 c arg2 harg2 x0) (kernelRun0_A.sl.r_9 c arg2 harg2 x0) (kernelRun0_A.sl.r_10 c arg2 harg2 x0) (kernelRun0_A.sl.r_11 c arg2 harg2 x0) (kernelRun0_A.sl.r_12 c arg2 harg2 x0) (kernelRun0_A.sl.r_13 c arg2 harg2 x0) (kernelRun0_A.sl.r_14 c arg2 harg2 x0) (kernelRun0_A.sl.r_15 c arg2 harg2 x0) (kernelRun0_A.sl.v2565_raw c arg4 harg4 x2) (kernelRun0_A.sl.v2570_raw c arg4 harg4 x2) (kernelRun0_A.sl.v2575_raw c arg4 harg4 x2) (kernelRun0_A.sl.v2580_raw c arg4 harg4 x2) (kernelRun0_A.sl.v2585_raw c arg4 harg4 x2) (kernelRun0_A.sl.v2590_raw c arg4 harg4 x2) (kernelRun0_A.sl.v2595_raw c arg4 harg4 x2) (kernelRun0_A.sl.v2600_raw c arg4 harg4 x2)) ?_
  · rfl
  rw [show kernelRun0_A.sl.r c arg2 harg2 x0 = sgn x0 0 from sign_read arg2 harg2 x0 0 (by decide) _ _, show kernelRun0_A.sl.r_1 c arg2 harg2 x0 = sgn x0 1 from sign_read arg2 harg2 x0 1 (by decide) _ _, show kernelRun0_A.sl.r_2 c arg2 harg2 x0 = sgn x0 2 from sign_read arg2 harg2 x0 2 (by decide) _ _, show kernelRun0_A.sl.r_3 c arg2 harg2 x0 = sgn x0 3 from sign_read arg2 harg2 x0 3 (by decide) _ _, show kernelRun0_A.sl.r_4 c arg2 harg2 x0 = sgn x0 4 from sign_read arg2 harg2 x0 4 (by decide) _ _, show kernelRun0_A.sl.r_5 c arg2 harg2 x0 = sgn x0 5 from sign_read arg2 harg2 x0 5 (by decide) _ _, show kernelRun0_A.sl.r_6 c arg2 harg2 x0 = sgn x0 6 from sign_read arg2 harg2 x0 6 (by decide) _ _, show kernelRun0_A.sl.r_7 c arg2 harg2 x0 = sgn x0 7 from sign_read arg2 harg2 x0 7 (by decide) _ _, show kernelRun0_A.sl.r_8 c arg2 harg2 x0 = sgn x0 8 from sign_read arg2 harg2 x0 8 (by decide) _ _, show kernelRun0_A.sl.r_9 c arg2 harg2 x0 = sgn x0 9 from sign_read arg2 harg2 x0 9 (by decide) _ _, show kernelRun0_A.sl.r_10 c arg2 harg2 x0 = sgn x0 10 from sign_read arg2 harg2 x0 10 (by decide) _ _, show kernelRun0_A.sl.r_11 c arg2 harg2 x0 = sgn x0 11 from sign_read arg2 harg2 x0 11 (by decide) _ _, show kernelRun0_A.sl.r_12 c arg2 harg2 x0 = sgn x0 12 from sign_read arg2 harg2 x0 12 (by decide) _ _, show kernelRun0_A.sl.r_13 c arg2 harg2 x0 = sgn x0 13 from sign_read arg2 harg2 x0 13 (by decide) _ _, show kernelRun0_A.sl.r_14 c arg2 harg2 x0 = sgn x0 14 from sign_read arg2 harg2 x0 14 (by decide) _ _, show kernelRun0_A.sl.r_15 c arg2 harg2 x0 = sgn x0 15 from sign_read arg2 harg2 x0 15 (by decide) _ _, show kernelRun0_A.sl.v2565_raw c arg4 harg4 x2 = raw x2 384 0 from raw_eq arg4 harg4 x2 3 0 (by decide) (by decide) 192 rfl _ _ _ _, show kernelRun0_A.sl.v2570_raw c arg4 harg4 x2 = raw x2 384 2 from raw_eq arg4 harg4 x2 3 1 (by decide) (by decide) 193 rfl _ _ _ _, show kernelRun0_A.sl.v2575_raw c arg4 harg4 x2 = raw x2 384 4 from raw_eq arg4 harg4 x2 3 2 (by decide) (by decide) 194 rfl _ _ _ _, show kernelRun0_A.sl.v2580_raw c arg4 harg4 x2 = raw x2 384 6 from raw_eq arg4 harg4 x2 3 3 (by decide) (by decide) 195 rfl _ _ _ _, show kernelRun0_A.sl.v2585_raw c arg4 harg4 x2 = raw x2 384 8 from raw_eq arg4 harg4 x2 3 4 (by decide) (by decide) 196 rfl _ _ _ _, show kernelRun0_A.sl.v2590_raw c arg4 harg4 x2 = raw x2 384 10 from raw_eq arg4 harg4 x2 3 5 (by decide) (by decide) 197 rfl _ _ _ _, show kernelRun0_A.sl.v2595_raw c arg4 harg4 x2 = raw x2 384 12 from raw_eq arg4 harg4 x2 3 6 (by decide) (by decide) 198 rfl _ _ _ _, show kernelRun0_A.sl.v2600_raw c arg4 harg4 x2 = raw x2 384 14 from raw_eq arg4 harg4 x2 3 7 (by decide) (by decide) 199 rfl _ _ _ _, splat_read, unit3_eq]
  rfl

theorem run4 (c : Dev nD) (arg2 : Memref sig .tc .smem S16 .f32) (harg2 : arg2.IsWhole) (arg3 : Memref sig .tc .vmem S8x128 .f32) (harg3 : arg3.IsWhole) (arg4 : Memref sig .tc .vmem S1024x128 .bf16) (harg4 : arg4.IsWhole) (x0 : Vec F S16 .f32) (x1 : Vec F S8x128 .f32) (x2 : Vec F S1024x128 .bf16) :
    kernelRun0_A.sl.r_521 c arg2 harg2 arg3 harg3 arg4 harg4 x0 x1 x2 = units 4 x0 x1 x2 := by
  refine Eq.trans (?_ : _ = unit4 (splat arg3 harg3 x1) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0) (kernelRun0_A.sl.r_8 c arg2 harg2 x0) (kernelRun0_A.sl.r_9 c arg2 harg2 x0) (kernelRun0_A.sl.r_10 c arg2 harg2 x0) (kernelRun0_A.sl.r_11 c arg2 harg2 x0) (kernelRun0_A.sl.r_12 c arg2 harg2 x0) (kernelRun0_A.sl.r_13 c arg2 harg2 x0) (kernelRun0_A.sl.r_14 c arg2 harg2 x0) (kernelRun0_A.sl.r_15 c arg2 harg2 x0) (kernelRun0_A.sl.v3429_raw c arg4 harg4 x2) (kernelRun0_A.sl.v3434_raw c arg4 harg4 x2) (kernelRun0_A.sl.v3439_raw c arg4 harg4 x2) (kernelRun0_A.sl.v3444_raw c arg4 harg4 x2) (kernelRun0_A.sl.v3449_raw c arg4 harg4 x2) (kernelRun0_A.sl.v3454_raw c arg4 harg4 x2) (kernelRun0_A.sl.v3459_raw c arg4 harg4 x2) (kernelRun0_A.sl.v3464_raw c arg4 harg4 x2)) ?_
  · rfl
  rw [show kernelRun0_A.sl.r c arg2 harg2 x0 = sgn x0 0 from sign_read arg2 harg2 x0 0 (by decide) _ _, show kernelRun0_A.sl.r_1 c arg2 harg2 x0 = sgn x0 1 from sign_read arg2 harg2 x0 1 (by decide) _ _, show kernelRun0_A.sl.r_2 c arg2 harg2 x0 = sgn x0 2 from sign_read arg2 harg2 x0 2 (by decide) _ _, show kernelRun0_A.sl.r_3 c arg2 harg2 x0 = sgn x0 3 from sign_read arg2 harg2 x0 3 (by decide) _ _, show kernelRun0_A.sl.r_4 c arg2 harg2 x0 = sgn x0 4 from sign_read arg2 harg2 x0 4 (by decide) _ _, show kernelRun0_A.sl.r_5 c arg2 harg2 x0 = sgn x0 5 from sign_read arg2 harg2 x0 5 (by decide) _ _, show kernelRun0_A.sl.r_6 c arg2 harg2 x0 = sgn x0 6 from sign_read arg2 harg2 x0 6 (by decide) _ _, show kernelRun0_A.sl.r_7 c arg2 harg2 x0 = sgn x0 7 from sign_read arg2 harg2 x0 7 (by decide) _ _, show kernelRun0_A.sl.r_8 c arg2 harg2 x0 = sgn x0 8 from sign_read arg2 harg2 x0 8 (by decide) _ _, show kernelRun0_A.sl.r_9 c arg2 harg2 x0 = sgn x0 9 from sign_read arg2 harg2 x0 9 (by decide) _ _, show kernelRun0_A.sl.r_10 c arg2 harg2 x0 = sgn x0 10 from sign_read arg2 harg2 x0 10 (by decide) _ _, show kernelRun0_A.sl.r_11 c arg2 harg2 x0 = sgn x0 11 from sign_read arg2 harg2 x0 11 (by decide) _ _, show kernelRun0_A.sl.r_12 c arg2 harg2 x0 = sgn x0 12 from sign_read arg2 harg2 x0 12 (by decide) _ _, show kernelRun0_A.sl.r_13 c arg2 harg2 x0 = sgn x0 13 from sign_read arg2 harg2 x0 13 (by decide) _ _, show kernelRun0_A.sl.r_14 c arg2 harg2 x0 = sgn x0 14 from sign_read arg2 harg2 x0 14 (by decide) _ _, show kernelRun0_A.sl.r_15 c arg2 harg2 x0 = sgn x0 15 from sign_read arg2 harg2 x0 15 (by decide) _ _, show kernelRun0_A.sl.v3429_raw c arg4 harg4 x2 = raw x2 512 0 from raw_eq arg4 harg4 x2 4 0 (by decide) (by decide) 256 rfl _ _ _ _, show kernelRun0_A.sl.v3434_raw c arg4 harg4 x2 = raw x2 512 2 from raw_eq arg4 harg4 x2 4 1 (by decide) (by decide) 257 rfl _ _ _ _, show kernelRun0_A.sl.v3439_raw c arg4 harg4 x2 = raw x2 512 4 from raw_eq arg4 harg4 x2 4 2 (by decide) (by decide) 258 rfl _ _ _ _, show kernelRun0_A.sl.v3444_raw c arg4 harg4 x2 = raw x2 512 6 from raw_eq arg4 harg4 x2 4 3 (by decide) (by decide) 259 rfl _ _ _ _, show kernelRun0_A.sl.v3449_raw c arg4 harg4 x2 = raw x2 512 8 from raw_eq arg4 harg4 x2 4 4 (by decide) (by decide) 260 rfl _ _ _ _, show kernelRun0_A.sl.v3454_raw c arg4 harg4 x2 = raw x2 512 10 from raw_eq arg4 harg4 x2 4 5 (by decide) (by decide) 261 rfl _ _ _ _, show kernelRun0_A.sl.v3459_raw c arg4 harg4 x2 = raw x2 512 12 from raw_eq arg4 harg4 x2 4 6 (by decide) (by decide) 262 rfl _ _ _ _, show kernelRun0_A.sl.v3464_raw c arg4 harg4 x2 = raw x2 512 14 from raw_eq arg4 harg4 x2 4 7 (by decide) (by decide) 263 rfl _ _ _ _, splat_read, unit4_eq]
  rfl

theorem run5 (c : Dev nD) (arg2 : Memref sig .tc .smem S16 .f32) (harg2 : arg2.IsWhole) (arg3 : Memref sig .tc .vmem S8x128 .f32) (harg3 : arg3.IsWhole) (arg4 : Memref sig .tc .vmem S1024x128 .bf16) (harg4 : arg4.IsWhole) (x0 : Vec F S16 .f32) (x1 : Vec F S8x128 .f32) (x2 : Vec F S1024x128 .bf16) :
    kernelRun0_A.sl.r_646 c arg2 harg2 arg3 harg3 arg4 harg4 x0 x1 x2 = units 5 x0 x1 x2 := by
  refine Eq.trans (?_ : _ = unit5 (splat arg3 harg3 x1) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0) (kernelRun0_A.sl.r_8 c arg2 harg2 x0) (kernelRun0_A.sl.r_9 c arg2 harg2 x0) (kernelRun0_A.sl.r_10 c arg2 harg2 x0) (kernelRun0_A.sl.r_11 c arg2 harg2 x0) (kernelRun0_A.sl.r_12 c arg2 harg2 x0) (kernelRun0_A.sl.r_13 c arg2 harg2 x0) (kernelRun0_A.sl.r_14 c arg2 harg2 x0) (kernelRun0_A.sl.r_15 c arg2 harg2 x0) (kernelRun0_A.sl.v4293_raw c arg4 harg4 x2) (kernelRun0_A.sl.v4298_raw c arg4 harg4 x2) (kernelRun0_A.sl.v4303_raw c arg4 harg4 x2) (kernelRun0_A.sl.v4308_raw c arg4 harg4 x2) (kernelRun0_A.sl.v4313_raw c arg4 harg4 x2) (kernelRun0_A.sl.v4318_raw c arg4 harg4 x2) (kernelRun0_A.sl.v4323_raw c arg4 harg4 x2) (kernelRun0_A.sl.v4328_raw c arg4 harg4 x2)) ?_
  · rfl
  rw [show kernelRun0_A.sl.r c arg2 harg2 x0 = sgn x0 0 from sign_read arg2 harg2 x0 0 (by decide) _ _, show kernelRun0_A.sl.r_1 c arg2 harg2 x0 = sgn x0 1 from sign_read arg2 harg2 x0 1 (by decide) _ _, show kernelRun0_A.sl.r_2 c arg2 harg2 x0 = sgn x0 2 from sign_read arg2 harg2 x0 2 (by decide) _ _, show kernelRun0_A.sl.r_3 c arg2 harg2 x0 = sgn x0 3 from sign_read arg2 harg2 x0 3 (by decide) _ _, show kernelRun0_A.sl.r_4 c arg2 harg2 x0 = sgn x0 4 from sign_read arg2 harg2 x0 4 (by decide) _ _, show kernelRun0_A.sl.r_5 c arg2 harg2 x0 = sgn x0 5 from sign_read arg2 harg2 x0 5 (by decide) _ _, show kernelRun0_A.sl.r_6 c arg2 harg2 x0 = sgn x0 6 from sign_read arg2 harg2 x0 6 (by decide) _ _, show kernelRun0_A.sl.r_7 c arg2 harg2 x0 = sgn x0 7 from sign_read arg2 harg2 x0 7 (by decide) _ _, show kernelRun0_A.sl.r_8 c arg2 harg2 x0 = sgn x0 8 from sign_read arg2 harg2 x0 8 (by decide) _ _, show kernelRun0_A.sl.r_9 c arg2 harg2 x0 = sgn x0 9 from sign_read arg2 harg2 x0 9 (by decide) _ _, show kernelRun0_A.sl.r_10 c arg2 harg2 x0 = sgn x0 10 from sign_read arg2 harg2 x0 10 (by decide) _ _, show kernelRun0_A.sl.r_11 c arg2 harg2 x0 = sgn x0 11 from sign_read arg2 harg2 x0 11 (by decide) _ _, show kernelRun0_A.sl.r_12 c arg2 harg2 x0 = sgn x0 12 from sign_read arg2 harg2 x0 12 (by decide) _ _, show kernelRun0_A.sl.r_13 c arg2 harg2 x0 = sgn x0 13 from sign_read arg2 harg2 x0 13 (by decide) _ _, show kernelRun0_A.sl.r_14 c arg2 harg2 x0 = sgn x0 14 from sign_read arg2 harg2 x0 14 (by decide) _ _, show kernelRun0_A.sl.r_15 c arg2 harg2 x0 = sgn x0 15 from sign_read arg2 harg2 x0 15 (by decide) _ _, show kernelRun0_A.sl.v4293_raw c arg4 harg4 x2 = raw x2 640 0 from raw_eq arg4 harg4 x2 5 0 (by decide) (by decide) 320 rfl _ _ _ _, show kernelRun0_A.sl.v4298_raw c arg4 harg4 x2 = raw x2 640 2 from raw_eq arg4 harg4 x2 5 1 (by decide) (by decide) 321 rfl _ _ _ _, show kernelRun0_A.sl.v4303_raw c arg4 harg4 x2 = raw x2 640 4 from raw_eq arg4 harg4 x2 5 2 (by decide) (by decide) 322 rfl _ _ _ _, show kernelRun0_A.sl.v4308_raw c arg4 harg4 x2 = raw x2 640 6 from raw_eq arg4 harg4 x2 5 3 (by decide) (by decide) 323 rfl _ _ _ _, show kernelRun0_A.sl.v4313_raw c arg4 harg4 x2 = raw x2 640 8 from raw_eq arg4 harg4 x2 5 4 (by decide) (by decide) 324 rfl _ _ _ _, show kernelRun0_A.sl.v4318_raw c arg4 harg4 x2 = raw x2 640 10 from raw_eq arg4 harg4 x2 5 5 (by decide) (by decide) 325 rfl _ _ _ _, show kernelRun0_A.sl.v4323_raw c arg4 harg4 x2 = raw x2 640 12 from raw_eq arg4 harg4 x2 5 6 (by decide) (by decide) 326 rfl _ _ _ _, show kernelRun0_A.sl.v4328_raw c arg4 harg4 x2 = raw x2 640 14 from raw_eq arg4 harg4 x2 5 7 (by decide) (by decide) 327 rfl _ _ _ _, splat_read, unit5_eq]
  rfl

theorem run6 (c : Dev nD) (arg2 : Memref sig .tc .smem S16 .f32) (harg2 : arg2.IsWhole) (arg3 : Memref sig .tc .vmem S8x128 .f32) (harg3 : arg3.IsWhole) (arg4 : Memref sig .tc .vmem S1024x128 .bf16) (harg4 : arg4.IsWhole) (x0 : Vec F S16 .f32) (x1 : Vec F S8x128 .f32) (x2 : Vec F S1024x128 .bf16) :
    kernelRun0_A.sl.r_771 c arg2 harg2 arg3 harg3 arg4 harg4 x0 x1 x2 = units 6 x0 x1 x2 := by
  refine Eq.trans (?_ : _ = unit6 (splat arg3 harg3 x1) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0) (kernelRun0_A.sl.r_8 c arg2 harg2 x0) (kernelRun0_A.sl.r_9 c arg2 harg2 x0) (kernelRun0_A.sl.r_10 c arg2 harg2 x0) (kernelRun0_A.sl.r_11 c arg2 harg2 x0) (kernelRun0_A.sl.r_12 c arg2 harg2 x0) (kernelRun0_A.sl.r_13 c arg2 harg2 x0) (kernelRun0_A.sl.r_14 c arg2 harg2 x0) (kernelRun0_A.sl.r_15 c arg2 harg2 x0) (kernelRun0_A.sl.v5157_raw c arg4 harg4 x2) (kernelRun0_A.sl.v5162_raw c arg4 harg4 x2) (kernelRun0_A.sl.v5167_raw c arg4 harg4 x2) (kernelRun0_A.sl.v5172_raw c arg4 harg4 x2) (kernelRun0_A.sl.v5177_raw c arg4 harg4 x2) (kernelRun0_A.sl.v5182_raw c arg4 harg4 x2) (kernelRun0_A.sl.v5187_raw c arg4 harg4 x2) (kernelRun0_A.sl.v5192_raw c arg4 harg4 x2)) ?_
  · rfl
  rw [show kernelRun0_A.sl.r c arg2 harg2 x0 = sgn x0 0 from sign_read arg2 harg2 x0 0 (by decide) _ _, show kernelRun0_A.sl.r_1 c arg2 harg2 x0 = sgn x0 1 from sign_read arg2 harg2 x0 1 (by decide) _ _, show kernelRun0_A.sl.r_2 c arg2 harg2 x0 = sgn x0 2 from sign_read arg2 harg2 x0 2 (by decide) _ _, show kernelRun0_A.sl.r_3 c arg2 harg2 x0 = sgn x0 3 from sign_read arg2 harg2 x0 3 (by decide) _ _, show kernelRun0_A.sl.r_4 c arg2 harg2 x0 = sgn x0 4 from sign_read arg2 harg2 x0 4 (by decide) _ _, show kernelRun0_A.sl.r_5 c arg2 harg2 x0 = sgn x0 5 from sign_read arg2 harg2 x0 5 (by decide) _ _, show kernelRun0_A.sl.r_6 c arg2 harg2 x0 = sgn x0 6 from sign_read arg2 harg2 x0 6 (by decide) _ _, show kernelRun0_A.sl.r_7 c arg2 harg2 x0 = sgn x0 7 from sign_read arg2 harg2 x0 7 (by decide) _ _, show kernelRun0_A.sl.r_8 c arg2 harg2 x0 = sgn x0 8 from sign_read arg2 harg2 x0 8 (by decide) _ _, show kernelRun0_A.sl.r_9 c arg2 harg2 x0 = sgn x0 9 from sign_read arg2 harg2 x0 9 (by decide) _ _, show kernelRun0_A.sl.r_10 c arg2 harg2 x0 = sgn x0 10 from sign_read arg2 harg2 x0 10 (by decide) _ _, show kernelRun0_A.sl.r_11 c arg2 harg2 x0 = sgn x0 11 from sign_read arg2 harg2 x0 11 (by decide) _ _, show kernelRun0_A.sl.r_12 c arg2 harg2 x0 = sgn x0 12 from sign_read arg2 harg2 x0 12 (by decide) _ _, show kernelRun0_A.sl.r_13 c arg2 harg2 x0 = sgn x0 13 from sign_read arg2 harg2 x0 13 (by decide) _ _, show kernelRun0_A.sl.r_14 c arg2 harg2 x0 = sgn x0 14 from sign_read arg2 harg2 x0 14 (by decide) _ _, show kernelRun0_A.sl.r_15 c arg2 harg2 x0 = sgn x0 15 from sign_read arg2 harg2 x0 15 (by decide) _ _, show kernelRun0_A.sl.v5157_raw c arg4 harg4 x2 = raw x2 768 0 from raw_eq arg4 harg4 x2 6 0 (by decide) (by decide) 384 rfl _ _ _ _, show kernelRun0_A.sl.v5162_raw c arg4 harg4 x2 = raw x2 768 2 from raw_eq arg4 harg4 x2 6 1 (by decide) (by decide) 385 rfl _ _ _ _, show kernelRun0_A.sl.v5167_raw c arg4 harg4 x2 = raw x2 768 4 from raw_eq arg4 harg4 x2 6 2 (by decide) (by decide) 386 rfl _ _ _ _, show kernelRun0_A.sl.v5172_raw c arg4 harg4 x2 = raw x2 768 6 from raw_eq arg4 harg4 x2 6 3 (by decide) (by decide) 387 rfl _ _ _ _, show kernelRun0_A.sl.v5177_raw c arg4 harg4 x2 = raw x2 768 8 from raw_eq arg4 harg4 x2 6 4 (by decide) (by decide) 388 rfl _ _ _ _, show kernelRun0_A.sl.v5182_raw c arg4 harg4 x2 = raw x2 768 10 from raw_eq arg4 harg4 x2 6 5 (by decide) (by decide) 389 rfl _ _ _ _, show kernelRun0_A.sl.v5187_raw c arg4 harg4 x2 = raw x2 768 12 from raw_eq arg4 harg4 x2 6 6 (by decide) (by decide) 390 rfl _ _ _ _, show kernelRun0_A.sl.v5192_raw c arg4 harg4 x2 = raw x2 768 14 from raw_eq arg4 harg4 x2 6 7 (by decide) (by decide) 391 rfl _ _ _ _, splat_read, unit6_eq]
  rfl

theorem run7 (c : Dev nD) (arg2 : Memref sig .tc .smem S16 .f32) (harg2 : arg2.IsWhole) (arg3 : Memref sig .tc .vmem S8x128 .f32) (harg3 : arg3.IsWhole) (arg4 : Memref sig .tc .vmem S1024x128 .bf16) (harg4 : arg4.IsWhole) (x0 : Vec F S16 .f32) (x1 : Vec F S8x128 .f32) (x2 : Vec F S1024x128 .bf16) :
    kernelRun0_A.sl.r_887 c arg2 harg2 arg3 harg3 arg4 harg4 x0 x1 x2 = units 7 x0 x1 x2 := by
  refine Eq.trans (?_ : _ = unit7 (splat arg3 harg3 x1) (kernelRun0_A.sl.r c arg2 harg2 x0) (kernelRun0_A.sl.r_1 c arg2 harg2 x0) (kernelRun0_A.sl.r_2 c arg2 harg2 x0) (kernelRun0_A.sl.r_3 c arg2 harg2 x0) (kernelRun0_A.sl.r_4 c arg2 harg2 x0) (kernelRun0_A.sl.r_5 c arg2 harg2 x0) (kernelRun0_A.sl.r_6 c arg2 harg2 x0) (kernelRun0_A.sl.r_7 c arg2 harg2 x0) (kernelRun0_A.sl.r_8 c arg2 harg2 x0) (kernelRun0_A.sl.r_9 c arg2 harg2 x0) (kernelRun0_A.sl.r_10 c arg2 harg2 x0) (kernelRun0_A.sl.r_11 c arg2 harg2 x0) (kernelRun0_A.sl.r_12 c arg2 harg2 x0) (kernelRun0_A.sl.r_13 c arg2 harg2 x0) (kernelRun0_A.sl.r_14 c arg2 harg2 x0) (kernelRun0_A.sl.r_15 c arg2 harg2 x0) (kernelRun0_A.sl.v6117_raw c arg4 harg4 x2) (kernelRun0_A.sl.v6122_raw c arg4 harg4 x2) (kernelRun0_A.sl.v6127_raw c arg4 harg4 x2) (kernelRun0_A.sl.v6132_raw c arg4 harg4 x2) (kernelRun0_A.sl.v6137_raw c arg4 harg4 x2) (kernelRun0_A.sl.v6142_raw c arg4 harg4 x2) (kernelRun0_A.sl.v6147_raw c arg4 harg4 x2) (kernelRun0_A.sl.v6152_raw c arg4 harg4 x2)) ?_
  · rfl
  rw [show kernelRun0_A.sl.r c arg2 harg2 x0 = sgn x0 0 from sign_read arg2 harg2 x0 0 (by decide) _ _, show kernelRun0_A.sl.r_1 c arg2 harg2 x0 = sgn x0 1 from sign_read arg2 harg2 x0 1 (by decide) _ _, show kernelRun0_A.sl.r_2 c arg2 harg2 x0 = sgn x0 2 from sign_read arg2 harg2 x0 2 (by decide) _ _, show kernelRun0_A.sl.r_3 c arg2 harg2 x0 = sgn x0 3 from sign_read arg2 harg2 x0 3 (by decide) _ _, show kernelRun0_A.sl.r_4 c arg2 harg2 x0 = sgn x0 4 from sign_read arg2 harg2 x0 4 (by decide) _ _, show kernelRun0_A.sl.r_5 c arg2 harg2 x0 = sgn x0 5 from sign_read arg2 harg2 x0 5 (by decide) _ _, show kernelRun0_A.sl.r_6 c arg2 harg2 x0 = sgn x0 6 from sign_read arg2 harg2 x0 6 (by decide) _ _, show kernelRun0_A.sl.r_7 c arg2 harg2 x0 = sgn x0 7 from sign_read arg2 harg2 x0 7 (by decide) _ _, show kernelRun0_A.sl.r_8 c arg2 harg2 x0 = sgn x0 8 from sign_read arg2 harg2 x0 8 (by decide) _ _, show kernelRun0_A.sl.r_9 c arg2 harg2 x0 = sgn x0 9 from sign_read arg2 harg2 x0 9 (by decide) _ _, show kernelRun0_A.sl.r_10 c arg2 harg2 x0 = sgn x0 10 from sign_read arg2 harg2 x0 10 (by decide) _ _, show kernelRun0_A.sl.r_11 c arg2 harg2 x0 = sgn x0 11 from sign_read arg2 harg2 x0 11 (by decide) _ _, show kernelRun0_A.sl.r_12 c arg2 harg2 x0 = sgn x0 12 from sign_read arg2 harg2 x0 12 (by decide) _ _, show kernelRun0_A.sl.r_13 c arg2 harg2 x0 = sgn x0 13 from sign_read arg2 harg2 x0 13 (by decide) _ _, show kernelRun0_A.sl.r_14 c arg2 harg2 x0 = sgn x0 14 from sign_read arg2 harg2 x0 14 (by decide) _ _, show kernelRun0_A.sl.r_15 c arg2 harg2 x0 = sgn x0 15 from sign_read arg2 harg2 x0 15 (by decide) _ _, show kernelRun0_A.sl.v6117_raw c arg4 harg4 x2 = raw x2 896 0 from raw_eq arg4 harg4 x2 7 0 (by decide) (by decide) 448 rfl _ _ _ _, show kernelRun0_A.sl.v6122_raw c arg4 harg4 x2 = raw x2 896 2 from raw_eq arg4 harg4 x2 7 1 (by decide) (by decide) 449 rfl _ _ _ _, show kernelRun0_A.sl.v6127_raw c arg4 harg4 x2 = raw x2 896 4 from raw_eq arg4 harg4 x2 7 2 (by decide) (by decide) 450 rfl _ _ _ _, show kernelRun0_A.sl.v6132_raw c arg4 harg4 x2 = raw x2 896 6 from raw_eq arg4 harg4 x2 7 3 (by decide) (by decide) 451 rfl _ _ _ _, show kernelRun0_A.sl.v6137_raw c arg4 harg4 x2 = raw x2 896 8 from raw_eq arg4 harg4 x2 7 4 (by decide) (by decide) 452 rfl _ _ _ _, show kernelRun0_A.sl.v6142_raw c arg4 harg4 x2 = raw x2 896 10 from raw_eq arg4 harg4 x2 7 5 (by decide) (by decide) 453 rfl _ _ _ _, show kernelRun0_A.sl.v6147_raw c arg4 harg4 x2 = raw x2 896 12 from raw_eq arg4 harg4 x2 7 6 (by decide) (by decide) 454 rfl _ _ _ _, show kernelRun0_A.sl.v6152_raw c arg4 harg4 x2 = raw x2 896 14 from raw_eq arg4 harg4 x2 7 7 (by decide) (by decide) 455 rfl _ _ _ _, splat_read, unit7_eq]
  rfl

/-- What a point leaves of block scales: the eight units', one after the other. -/
theorem out_eq (c : Dev nD) (i : grid0.Coords) (arg2 : Memref sig .tc .smem S16 .f32) (harg2 : arg2.IsWhole) (arg3 : Memref sig .tc .vmem S8x128 .f32) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x128x512 .i8) (harg6 : arg6.IsWhole) (arg7 : Memref sig .tc .vmem S1x64x128 .fp8e4m3) (harg7 : arg7.IsWhole) (arg8 : Memref sig .tc .vmem S16x8x128 .i32) (harg8 : arg8.IsWhole) (arg9 : Memref sig .tc .vmem S128x128 .i32) (harg9 : arg9.IsWhole)
    (x0 : Vec F S16 .f32) (x1 : Vec F S8x128 .f32) (x2 : Vec F S1024x128 .bf16) :
    out0_A_5 c i arg2 harg2 arg3 harg3 arg4 harg4 arg5 harg5 arg6 harg6 arg7 harg7 arg8 harg8 arg9 harg9 x0 x1 x2
      = k0_pay1501 (units 0 x0 x1 x2) (units 1 x0 x1 x2) (units 2 x0 x1 x2) (units 3 x0 x1 x2) (units 4 x0 x1 x2) (units 5 x0 x1 x2) (units 6 x0 x1 x2) (units 7 x0 x1 x2) := by
  unfold out0_A_5 kernelRun0_A
  dsimp only
  rw [run0, run1, run2, run3, run4, run5, run6, run7]
  exact View.read_writes_full _ _ _ _ _

set_option maxHeartbeats 2000000 in
/-- The concatenation of the units' scales, entry by entry. -/
theorem concat_apply (f : Fin 8 → FVec Ideal S8x128 .f32) (u : Fin 8) (a : Fin 8) (l : Fin 128) :
    k0_pay1501 (f 0) (f 1) (f 2) (f 3) (f 4) (f 5) (f 6) (f 7) (ix3 (0 : Fin 1) (⟨8 * u.val + a.val, by omega⟩ : Fin 64) l) = f u (ix2 a l) := by
  have ha := a.isLt
  fin_cases u <;> pointwise [k0_pay1501]
  all_goals split_ifs <;> first | (exfalso; omega) | exact congrArg (fun z => f _ (ix2 z l)) (Fin.ext (by dsimp only; omega))

end Cert.Scales

end
-- ==== Proof.XScalesValue.lean ====
/- What the call `x_quant` and its reference compute as block scales over the extended reals: a sixth of each block's largest absolute value, over the global scale, within the range of the eight-bit format. -/
module

public import proofs.«01_k».proof.Defs
public import proofs.«01_k».proof.Proof.AmaxValue
public import proofs.«01_k».proof.Proof.XAmaxValue
public import proofs.«01_k».proof.Proof.XScalesBody
public import proofs.«01_k».proof.Proof.Gen.XScalesIdeal.Value
public import proofs.«01_k».proof.Proof.Gen.XScalesRefIdeal.Run
public import proofs.«01_k».proof.Proof.Gen.XScalesRefIdeal.Read
public import Idealize.ShloMosaic.Lib.Pipeline.Value
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.Scales

open Cert.Amax (signed quarter quarter_mul_four four_mul_le_iff)

/-- A quarter of the largest absolute value that the butterflies leave is the largest of the transform. -/
theorem peak_quarter (p : ℕ → EReal) :
    Hadamard.peak p * Ideal.ofBits .f32 0x3E800000#32 = ⨆ i : Fin 16, Hadamard.abs (Hadamard.row p i.val) := by
  have h : Hadamard.peak p = 4 * ⨆ i : Fin 16, Hadamard.abs (Hadamard.row p i.val) := by
    refine eq_of_forall_ge_iff fun z => ?_
    rw [Hadamard.peak_le_iff, four_mul_le_iff, iSup_le_iff]
    exact forall_congr' fun i => by rw [Hadamard.abs_transform, four_mul_le_iff]
  rw [h, quarter, mul_comm, quarter_mul_four]

theorem peak_congr (p q : ℕ → EReal) (h : ∀ j : Fin 16, p j.val = q j.val) : Hadamard.peak p = Hadamard.peak q :=
  iSup_congr fun i => congrArg Hadamard.abs (Hadamard.transform_congr p q h i)

/-- The scales of all blocks. -/
def G (x : Vec Ideal (⟨3, ![6, 1024, 7168]⟩ : Shape) .bf16) (s : Vec Ideal Amax.S16 .f32) (t : Vec Ideal (⟨1, ![1]⟩ : Shape) .f32)
    (i : (⟨3, ![6, 64, 7168]⟩ : Shape).Idx) : EReal :=
  clip (⨆ j : Fin 16, Hadamard.abs (Hadamard.row (signed x s (i 0) (i 1) (i 2)) j.val)) (t (ix1 0))

end Cert.Scales

namespace Cert.XScalesIdeal.RefValue

open Cert.XScalesIdeal Cert.XScalesIdeal.Gen
open Cert.Scales (at2 sgn raw units clip G)

variable (m : (ℓ : Loc nD τ sig) → Buf (Elt Ideal) ℓ)

theorem reshaped (c : Dev nD) : V m c main_v2 = shapeCast _ (m ((c : Thread nD τ).loc main_arg0)) shapeCasts_S6x1024x7168_S6144x7168 := by
  rfl

theorem spread (c : Dev nD) : V m c main_v1 = broadcastInDim S8x128 ![0, 1] bcast_S1x1_S8x128_0_1 (broadcastInDim S1x1 ![1] bcast_S1_S1x1_1 (m ((c : Thread nD τ).loc main_arg2))) := by
  rfl

/-- The index maps in closed form. -/
theorem idx_facts : ∀ t : Fin cfg0.N,
    win0_0.index t 0 = 0 ∧ win0_1.index t 0 = 0 ∧ win0_1.index t 1 = 0
    ∧ win0_2.index t 0 = t.val / 56 ∧ win0_2.index t 1 = t.val % 56
    ∧ win0_5.index t 0 = t.val / 56 ∧ win0_5.index t 1 = 0 ∧ win0_5.index t 2 = t.val % 56 :=
  (by decide +kernel : ∀ t : Fin grid0.N, _)

/-- An entry of a block, in the whole array. -/
theorem block_entry (c : Dev nD) (t : Fin cfg0.N) (n : ℕ) (hn : n < 1024) (l : Fin 128) (b : Fin 6) (d : Fin 7168)
    (hR : t.val / 56 = b.val) (hd : d.val = t.val % 56 * 128 + l.val) :
    at2 (iblk m c 2 t) n l = m ((c : Thread nD τ).loc main_arg0) (ix3 b (Fin.ofNat 1024 n) d) := by
  obtain ⟨h0, h10, h11, h20, h21, -⟩ := idx_facts t
  show V m c main_v2 (((cfg0.win 2).blk t).view.emb (ix2 (Fin.ofNat 1024 n) l)) = _
  rw [reshaped]
  refine shapeCast_apply _ _ _ _ ?_
  have hR' : t.val / 56 * 1024 + n < 6144 := by have := b.isLt; omega
  have e : ((cfg0.win 2).blk t).view.emb (ix2 (Fin.ofNat 1024 n) l) = (ix2 (⟨t.val / 56 * 1024 + n, hR'⟩ : Fin 6144) d : S6144x7168.Idx) :=
    Shape.idx_ext₂ (show win0_2.index t 0 * 1024 + 1 * (n % 1024) = _ by rw [h20, Nat.mod_eq_of_lt hn]; simp)
      (show win0_2.index t 1 * 128 + 1 * l.val = d.val by rw [h21, hd]; simp)
  rw [e]
  show (S6x1024x7168.rowMajor (ix3 b (Fin.ofNat 1024 n) d)).val = (S6144x7168.rowMajor (ix2 (⟨t.val / 56 * 1024 + n, hR'⟩ : Fin 6144) d)).val
  rw [Shape.rowMajor_val_three, Shape.rowMajor_val_two]
  show (b.val * 1024 + n % 1024) * 7168 + d.val = (t.val / 56 * 1024 + n) * 7168 + d.val
  rw [Nat.mod_eq_of_lt hn, hR]

/-- The signs that a point reads are all of them. -/
theorem sign_block (c : Dev nD) (t : Fin cfg0.N) : (iblk m c 0 t : Vec Ideal S16 .f32) = m ((c : Thread nD τ).loc main_arg1) := by
  obtain ⟨h0, -⟩ := idx_facts t
  funext y
  show V m c main_arg1 (((cfg0.win 0).blk t).view.emb y) = _
  rw [V_main_arg1]
  refine congrArg (m ((c : Thread nD τ).loc main_arg1)) (funext fun (a : Fin 1) => ?_)
  obtain rfl : a = 0 := Subsingleton.elim _ _
  exact Fin.ext (show win0_0.index t 0 * 16 + 1 * (y 0).val = (y 0).val by rw [h0]; simp)

/-- The global scale that a point reads, in every place. -/
theorem scale_block (c : Dev nD) (t : Fin cfg0.N) (y : S8x128.Idx) :
    (iblk m c 1 t : Vec Ideal S8x128 .f32) y = m ((c : Thread nD τ).loc main_arg2) (ix1 0) := by
  show V m c main_v1 (((cfg0.win 1).blk t).view.emb y) = _
  rw [spread]
  refine (broadcastInDim_apply (t := S8x128) _ _ _ _ (ix2 0 0) (fun a => by fin_cases a <;> rfl)).trans ?_
  exact broadcastInDim_apply (t := S1x1) _ _ _ (ix2 0 0) (ix1 0) (fun a => by fin_cases a; rfl)

theorem flushed_eq (c : Dev nD) (t : Fin cfg0.N) :
    (dats m 0 c).flushed 5 t = ((cfg0.win 5).blk t).view.read (Elt Ideal)
      (G (m ((c : Thread nD τ).loc main_arg0)) (m ((c : Thread nD τ).loc main_arg1)) (m ((c : Thread nD τ).loc main_arg2))) := by
  rw [Value.flushed5_A, Scales.out_eq]
  funext j
  obtain ⟨h0, h10, h11, h20, h21, h50, h51, h52⟩ := idx_facts t
  idx_vars j
  have ht : t.val < 336 := lt_of_lt_of_eq t.isLt N_0
  have hj0 : j0.val < 1 := j0.isLt
  have hj1 : j1.val < 64 := j1.isLt
  have hj2 : j2.val < 128 := j2.isLt
  have b0 : t.val / 56 < 6 := by omega
  have b2 : t.val % 56 * 128 + j2.val < 7168 := by omega
  have e5 : ((cfg0.win 5).blk t).view.emb (ix3 j0 j1 j2)
      = (ix3 (⟨t.val / 56, b0⟩ : Fin 6) (j1 : Fin 64) (⟨t.val % 56 * 128 + j2.val, b2⟩ : Fin 7168) : S6x64x7168.Idx) :=
    funext fun a => match a with
    | ⟨0, _⟩ => Fin.ext (show win0_5.index t 0 * 1 + 1 * j0.val = t.val / 56 by rw [h50]; omega)
    | ⟨1, _⟩ => Fin.ext (show win0_5.index t 1 * 64 + 1 * j1.val = j1.val by rw [h51]; omega)
    | ⟨2, _⟩ => Fin.ext (show win0_5.index t 2 * 128 + 1 * j2.val = t.val % 56 * 128 + j2.val by rw [h52]; omega)
  show _ = G _ _ _ (((cfg0.win 5).blk t).view.emb (ix3 j0 j1 j2))
  rw [e5]
  have ej : (ix3 j0 j1 j2 : S1x64x128.Idx) = ix3 (0 : Fin 1) (⟨8 * (j1.val / 8) + j1.val % 8, by omega⟩ : Fin 64) (j2 : Fin 128) :=
    funext fun a => match a with
    | ⟨0, _⟩ => Fin.ext (show j0.val = 0 by omega)
    | ⟨1, _⟩ => Fin.ext (show j1.val = 8 * (j1.val / 8) + j1.val % 8 by omega)
    | ⟨2, _⟩ => rfl
  show Gen.k0_pay1501 (F := Ideal) _ _ _ _ _ _ _ _ (ix3 j0 j1 j2) = _
  rw [ej]
  refine (Scales.concat_apply (fun u => units u.val (iblk m c 0 t) (iblk m c 1 t) (iblk m c 2 t)) (⟨j1.val / 8, by omega⟩ : Fin 8) (⟨j1.val % 8, by omega⟩ : Fin 8) j2).trans ?_
  refine (Scales.unit0_apply (iblk m c 1 t) (sgn (iblk m c 0 t)) (iblk m c 2 t) (128 * (j1.val / 8)) _ _).trans ?_
  rw [Scales.peak_congr _ (Amax.signed (m ((c : Thread nD τ).loc main_arg0)) (m ((c : Thread nD τ).loc main_arg1)) (⟨t.val / 56, b0⟩ : Fin 6) (j1 : Fin 64) (⟨t.val % 56 * 128 + j2.val, b2⟩ : Fin 7168)) (fun k => ?_),
    Scales.peak_quarter, scale_block]
  · rfl
  · have hk := k.isLt
    dsimp only
    rw [block_entry m c t _ (by omega) j2 (⟨t.val / 56, b0⟩ : Fin 6) (⟨t.val % 56 * 128 + j2.val, b2⟩ : Fin 7168) rfl rfl, sign_block]
    unfold Amax.signed
    rw [show 128 * (j1.val / 8) + 16 * (j1.val % 8) + k.val = 16 * j1.val + k.val by omega]

/-- An index of the result array is in point `t`'s block. -/
theorem mem_blk (t : Fin cfg0.N) (i : S6x64x7168.Idx) :
    i ∈ ((cfg0.win 5).blk t).view.set ↔
      (i 0 : Nat) = t.val / 56 ∧ (t.val % 56 * 128 ≤ (i 2 : Nat) ∧ (i 2 : Nat) < t.val % 56 * 128 + 128) := by
  obtain ⟨h0, h10, h11, h20, h21, h50, h51, h52⟩ := idx_facts t
  show i ∈ ((View.whole main_v3_2).slice (win0_5.rect t)).set ↔ _
  rw [View.set_slice_whole, Rect.mem_set_unit]
  have hi1 : (i 1 : Nat) < 64 := (i 1).isLt
  refine ⟨fun h => ?_, fun h a => ?_⟩
  · have q0 : win0_5.index t 0 * 1 ≤ (i 0 : Nat) ∧ (i 0 : Nat) < win0_5.index t 0 * 1 + 1 := h 0
    have q2 : win0_5.index t 2 * 128 ≤ (i 2 : Nat) ∧ (i 2 : Nat) < win0_5.index t 2 * 128 + 128 := h 2
    rw [h50] at q0; rw [h52] at q2; exact ⟨by omega, q2⟩
  · match a with
    | ⟨0, _⟩ => show win0_5.index t 0 * 1 ≤ (i 0 : Nat) ∧ (i 0 : Nat) < win0_5.index t 0 * 1 + 1
                rw [h50]; omega
    | ⟨1, _⟩ => show win0_5.index t 1 * 64 ≤ (i 1 : Nat) ∧ (i 1 : Nat) < win0_5.index t 1 * 64 + 64
                rw [h51]; omega
    | ⟨2, _⟩ => show win0_5.index t 2 * 128 ≤ (i 2 : Nat) ∧ (i 2 : Nat) < win0_5.index t 2 * 128 + 128
                rw [h52]; exact h.2

/-- The blocks tile the result array. -/
theorem cover (i : S6x64x7168.Idx) :
    ∃ t : Fin cfg0.N, (cfg0.win 5).flush t = true ∧ i ∈ ((cfg0.win 5).blk t).view.set := by
  have h0 : (i 0 : Nat) < 6 := (i 0).isLt
  have h2 : (i 2 : Nat) < 7168 := (i 2).isLt
  refine ⟨⟨(i 0 : Nat) * 56 + (i 2 : Nat) / 128, by show _ < grid0.N; rw [N_0]; omega⟩, flush0_5 _, ?_⟩
  rw [mem_blk]
  dsimp only
  omega

/-- The array of scales after the run. -/
theorem final (c : Dev nD) : (dats m 0 c).arrAt 5 cfg0.N
    = G (m ((c : Thread nD τ).loc main_arg0)) (m ((c : Thread nD τ).loc main_arg1)) (m ((c : Thread nD τ).loc main_arg2)) :=
  (dats m 0 c).arrAt_eq_of_cover 5 _ (fun t _ => flushed_eq m c t) cover

end Cert.XScalesIdeal.RefValue

namespace Cert.XScalesRefIdeal.RefValue

open Cert.XScalesRefIdeal Cert.XScalesRefIdeal.Gen
open Cert.Amax (signed negInf)
open Cert.Scales (clip G)

theorem ref_entry (x0 : (⟨S6x1024x7168, .bf16⟩ : BufTy).Contents (Elt Ideal)) (x1 : (⟨S16, .f32⟩ : BufTy).Contents (Elt Ideal)) (d : Fin 7168) (b : Fin 6) (k : Fin 64) (i : Fin 16) :
    Read.val_main_v23 (F := Ideal) x0 x1 (ix4 d b k i) = Hadamard.abs (Hadamard.row (signed x0 x1 b k d) i.val) :=
  (show Read.val_main_v23 (F := Ideal) x0 x1 (ix4 d b k i) = XAmaxRefIdeal.Read.val_main_v23 (F := Ideal) x0 x1 (ix4 d b k i) from rfl).trans
    (XAmaxRefIdeal.RefValue.ref_entry x0 x1 d b k i)

/-- The largest absolute value of a block. -/
theorem ref_amax (x0 : (⟨S6x1024x7168, .bf16⟩ : BufTy).Contents (Elt Ideal)) (x1 : (⟨S16, .f32⟩ : BufTy).Contents (Elt Ideal)) (d : Fin 7168) (b : Fin 6) (k : Fin 64) :
    Read.val_main_v24 (F := Ideal) x0 x1 (ix3 d b k) = ⨆ i : Fin 16, Hadamard.abs (Hadamard.row (signed x0 x1 b k d) i.val) := by
  simp only [← ref_entry]
  unfold Read.val_main_v24
  generalize Read.val_main_v23 (F := Ideal) x0 x1 = y
  pointwise [Read.val_main_cst_2]
  refine eq_of_forall_ge_iff (α := EReal) fun z => ?_
  rw [iSup_le_iff]
  refine Iff.trans (Finset.fold_max_le (β := EReal) z) ?_
  exact ⟨fun h i => h.2 i (Finset.mem_univ _), fun h => ⟨negInf ▸ bot_le, fun i _ => h i⟩⟩

/-- The reference's composed term: the scales of all blocks. -/
theorem ref_eq (x0 : (⟨S6x1024x7168, .bf16⟩ : BufTy).Contents (Elt Ideal)) (x1 : (⟨S16, .f32⟩ : BufTy).Contents (Elt Ideal)) (x2 : (⟨S1, .f32⟩ : BufTy).Contents (Elt Ideal)) :
    Read.val_main_v32 (F := Ideal) x0 x1 x2 = G x0 x1 x2 := by
  funext i
  obtain ⟨b, k, d, rfl⟩ : ∃ (b : Fin 6) (k : Fin 64) (d : Fin 7168), i = ix3 b k d := ⟨_, _, _, eq_ix3 i⟩
  have ei : Read.idx_main_v32 (ix3 b k d) = ix3 d b k := funext fun a => by fin_cases a <;> rfl
  rw [Read.val_main_v32_apply, ei, Read.val_main_v31_apply, Read.val_main_v30_apply, Read.val_main_call0_v4_apply, Read.val_main_call0_v2_apply,
    Read.val_main_call0_v3_apply, Read.val_main_call0_v1_apply, Read.val_main_call0_v0_apply, Read.val_main_v29_apply, Read.val_main_v28_apply, Read.val_main_v27_apply,
    Read.val_main_v26_apply, Read.val_main_v25_apply, ref_amax]
  have e1 : Read.idx_main_v27 (Read.idx_main_v28 (ix3 d b k)) = ix1 0 := funext fun a => by
    have ha : a = 0 := Subsingleton.elim _ _
    subst ha; rfl
  rw [e1]
  unfold G
  show _ = clip (⨆ i : Fin 16, Hadamard.abs (Hadamard.row (signed x0 x1 b k d) i.val)) (x2 (ix1 0))
  generalize (⨆ i : Fin 16, Hadamard.abs (Hadamard.row (signed x0 x1 b k d) i.val)) = a
  pointwise [Read.val_main_cst_3, Read.val_main_cst_4, Read.val_main_cst_5, clip]

end Cert.XScalesRefIdeal.RefValue

end
-- ==== Proof.lean ====
module

public import proofs.«01_k».proof.Defs
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.DwIdeal.Value
public import proofs.«01_k».proof.Proof.Gen.DwRefIdeal.Run
public import proofs.«01_k».proof.Proof.Gen.DwRefIdeal.Read
public import proofs.«01_k».proof.Proof.DwValue
public import proofs.«01_k».proof.Proof.Gen.XAmax
public import proofs.«01_k».proof.Proof.Gen.XAmax.Skeleton
public import proofs.«01_k».proof.Proof.Gen.XAmax.Loops
public import proofs.«01_k».proof.Proof.Gen.XAmax.Launch
public import proofs.«01_k».proof.Proof.Gen.XAmax.Points
public import proofs.«01_k».proof.Proof.Gen.XAmax.Frame
public import proofs.«01_k».proof.Proof.Gen.XAmaxIdeal
public import proofs.«01_k».proof.Proof.Gen.XAmaxIdeal.Skeleton
public import proofs.«01_k».proof.Proof.Gen.XAmaxIdeal.Loops
public import proofs.«01_k».proof.Proof.Gen.XAmaxIdeal.Launch
public import proofs.«01_k».proof.Proof.Gen.XAmaxIdeal.Points
public import proofs.«01_k».proof.Proof.Gen.XAmaxIdeal.Frame
public import proofs.«01_k».proof.Proof.Gen.XAmaxRefIdeal
public import proofs.«01_k».proof.Proof.Gen.XAmaxRefIdeal.Run
public import proofs.«01_k».proof.Proof.Gen.XAmaxRefIdeal.Read
public import proofs.«01_k».proof.Proof.XAmaxFrame
public import proofs.«01_k».proof.Proof.XAmaxRun
public import proofs.«01_k».proof.Proof.XAmaxValue
public import proofs.«01_k».proof.Proof.Gen.DyAmax
public import proofs.«01_k».proof.Proof.Gen.DyAmax.Skeleton
public import proofs.«01_k».proof.Proof.Gen.DyAmax.Loops
public import proofs.«01_k».proof.Proof.Gen.DyAmax.Launch
public import proofs.«01_k».proof.Proof.Gen.DyAmax.Points
public import proofs.«01_k».proof.Proof.Gen.DyAmax.Frame
public import proofs.«01_k».proof.Proof.Gen.DyAmaxIdeal
public import proofs.«01_k».proof.Proof.Gen.DyAmaxIdeal.Skeleton
public import proofs.«01_k».proof.Proof.Gen.DyAmaxIdeal.Loops
public import proofs.«01_k».proof.Proof.Gen.DyAmaxIdeal.Launch
public import proofs.«01_k».proof.Proof.Gen.DyAmaxIdeal.Points
public import proofs.«01_k».proof.Proof.Gen.DyAmaxIdeal.Frame
public import proofs.«01_k».proof.Proof.Gen.DyAmaxRefIdeal
public import proofs.«01_k».proof.Proof.Gen.DyAmaxRefIdeal.Run
public import proofs.«01_k».proof.Proof.Gen.DyAmaxRefIdeal.Read
public import proofs.«01_k».proof.Proof.DyAmaxFrame
public import proofs.«01_k».proof.Proof.DyAmaxRun
public import proofs.«01_k».proof.Proof.DyAmaxValue
public import proofs.«01_k».proof.Proof.Gen.XScales
public import proofs.«01_k».proof.Proof.Gen.XScales.Skeleton
public import proofs.«01_k».proof.Proof.Gen.XScales.Launch
public import proofs.«01_k».proof.Proof.Gen.XScales.Points
public import proofs.«01_k».proof.Proof.Gen.XScales.Frame
public import proofs.«01_k».proof.Proof.Gen.XScalesIdeal
public import proofs.«01_k».proof.Proof.Gen.XScalesIdeal.Skeleton
public import proofs.«01_k».proof.Proof.Gen.XScalesIdeal.Launch
public import proofs.«01_k».proof.Proof.Gen.XScalesIdeal.Points
public import proofs.«01_k».proof.Proof.Gen.XScalesIdeal.Frame
public import proofs.«01_k».proof.Proof.Gen.XScalesIdeal.Value
public import proofs.«01_k».proof.Proof.Gen.XScalesRefIdeal
public import proofs.«01_k».proof.Proof.Gen.XScalesRefIdeal.Run
public import proofs.«01_k».proof.Proof.Gen.XScalesRefIdeal.Read
public import proofs.«01_k».proof.Proof.XScalesValue
public import Idealize.ShloMosaic.Lib.Bf16Pair
public import Idealize.ShloMosaic.Adequacy
public import Idealize.ShloMosaic.Init
public import Idealize.ShloMosaic.Lib.Quiescent

@[expose] public section

noncomputable section

namespace Cert.Proof

open Idealize.ShloMosaic Idealize.SL.Sem

/-! ## The main product -/

theorem frame_dw : Cert.quiescent_Dw := fun m ρ _ => Cert.Dw.Gen.frame m ρ
theorem frame_dwi : Cert.quiescent_DwIdeal := fun m ρ _ => Cert.DwIdeal.Gen.frame m ρ
theorem frame_dwri : Cert.quiescent_DwRefIdeal := fun m ρ _ =>
  (θ_run Cert.DwRefIdeal.defs _ _).mono (fun r h => ⟨fun c => (h c).2,
      Idealize.ShloMosaic.sem_eq_zero_of_no_sems (by decide) r.2⟩)
    (Cert.DwRefIdeal.Value.run (F := Ideal) m ρ)

/-- The blocked product and the reference's one product are the same function over the extended reals. -/
theorem algebraic_dw : Cert.algebraic_DwIdeal_DwRefIdeal := fun m ρ m' ρ' _ hag =>
  ⟨fun c => Cert.DwIdeal.RefValue.G _ _ _ _,
    (θ_run _ _ _).mono (fun _ h c => ⟨(h c).1.trans (Cert.DwIdeal.RefValue.final m c), (h c).2⟩)
      (Cert.DwIdeal.Value.run_blocks m ρ),
    (θ_run _ _ _).mono (fun _ h c => ⟨(h c).1.trans (by
        rw [(hag c).1, (hag c).2.1, (hag c).2.2.1, (hag c).2.2.2, Cert.DwRefIdeal.Read.val_main_v5_eq]
        exact Cert.DwRefIdeal.RefValue.ref_eq _ _ _ _), (h c).2⟩)
      (Cert.DwRefIdeal.Value.run (F := Ideal) m' ρ')⟩

/-! ## The largest absolute value of the transformed `x` -/

theorem frame_xa : Cert.quiescent_XAmax := fun m ρ _ => Cert.XAmax.Run.frame m ρ
theorem frame_xai : Cert.quiescent_XAmaxIdeal := fun m ρ _ => Cert.XAmaxIdeal.Run.frame m ρ
theorem frame_xari : Cert.quiescent_XAmaxRefIdeal := fun m ρ _ =>
  (θ_run Cert.XAmaxRefIdeal.defs _ _).mono (fun r h => ⟨fun c => (h c).2,
      Idealize.ShloMosaic.sem_eq_zero_of_no_sems (by decide) r.2⟩)
    (Cert.XAmaxRefIdeal.Value.run (F := Ideal) m ρ)

/-- The rewritten reads of sixteen-bit pairs are the original ones, bit for bit. -/
theorem preserves_xa : Cert.preserves_XAmax_XAmaxIdeal :=
  ⟨IdealRules.bf16_pair.statement _ _, IdealRules.bf16_pair.statement _ _⟩

theorem algebraic_xa : Cert.algebraic_XAmaxIdeal_XAmaxRefIdeal := fun m ρ m' ρ' _ hag =>
  ⟨fun c => fun _ => Cert.Amax.scale (Cert.Amax.amax _ _),
    (θ_run _ _ _).mono (fun _ h c => ⟨(h.1 c).trans (Cert.XAmaxIdeal.RefValue.result m c), h.2.1 c⟩)
      (Idealize.ShloMosaic.θ_run_and (Cert.XAmaxIdeal.Run.run m ρ) (Cert.XAmaxIdeal.Run.frame m ρ)),
    (θ_run _ _ _).mono (fun _ h c => ⟨(h c).1.trans (by
        rw [(hag c).1, (hag c).2, Cert.XAmaxRefIdeal.Read.val_main_v30_eq]
        exact Cert.XAmaxRefIdeal.RefValue.ref_eq _ _), (h c).2⟩)
      (Cert.XAmaxRefIdeal.Value.run (F := Ideal) m' ρ')⟩

/-! ## The largest absolute value of the transformed `dy` -/

theorem frame_da : Cert.quiescent_DyAmax := fun m ρ _ => Cert.DyAmax.Run.frame m ρ
theorem frame_dai : Cert.quiescent_DyAmaxIdeal := fun m ρ _ => Cert.DyAmaxIdeal.Run.frame m ρ
theorem frame_dari : Cert.quiescent_DyAmaxRefIdeal := fun m ρ _ =>
  (θ_run Cert.DyAmaxRefIdeal.defs _ _).mono (fun r h => ⟨fun c => (h c).2,
      Idealize.ShloMosaic.sem_eq_zero_of_no_sems (by decide) r.2⟩)
    (Cert.DyAmaxRefIdeal.Value.run (F := Ideal) m ρ)

/-- The rewritten reads of sixteen-bit pairs are the original ones, bit for bit. -/
theorem preserves_da : Cert.preserves_DyAmax_DyAmaxIdeal :=
  ⟨IdealRules.bf16_pair.statement _ _, IdealRules.bf16_pair.statement _ _⟩

theorem algebraic_da : Cert.algebraic_DyAmaxIdeal_DyAmaxRefIdeal := fun m ρ m' ρ' _ hag =>
  ⟨fun c => fun _ => Cert.Amax.scale (Cert.Amax.amax _ _),
    (θ_run _ _ _).mono (fun _ h c => ⟨(h.1 c).trans (Cert.DyAmaxIdeal.RefValue.result m c), h.2.1 c⟩)
      (Idealize.ShloMosaic.θ_run_and (Cert.DyAmaxIdeal.Run.run m ρ) (Cert.DyAmaxIdeal.Run.frame m ρ)),
    (θ_run _ _ _).mono (fun _ h c => ⟨(h c).1.trans (by
        rw [(hag c).1, (hag c).2, Cert.DyAmaxRefIdeal.Read.val_main_v30_eq]
        exact Cert.DyAmaxRefIdeal.RefValue.ref_eq _ _), (h c).2⟩)
      (Cert.DyAmaxRefIdeal.Value.run (F := Ideal) m' ρ')⟩

/-! ## The block scales of the transformed `x` -/

theorem frame_xs : Cert.quiescent_XScales := fun m ρ _ => Cert.XScales.Gen.frame m ρ
theorem frame_xsi : Cert.quiescent_XScalesIdeal := fun m ρ _ => Cert.XScalesIdeal.Gen.frame m ρ
theorem frame_xsri : Cert.quiescent_XScalesRefIdeal := fun m ρ _ =>
  (θ_run Cert.XScalesRefIdeal.defs _ _).mono (fun r h => ⟨fun c => (h c).2,
      Idealize.ShloMosaic.sem_eq_zero_of_no_sems (by decide) r.2⟩)
    (Cert.XScalesRefIdeal.Value.run (F := Ideal) m ρ)

/-- The rewritten reads and writes of sixteen-bit pairs are the original ones, bit for bit. -/
theorem preserves_xs : Cert.preserves_XScales_XScalesIdeal :=
  ⟨IdealRules.bf16_pair.statement _ _, IdealRules.bf16_pair.statement _ _, IdealRules.bf16_pair.packStatement _⟩

theorem algebraic_xs : Cert.algebraic_XScalesIdeal_XScalesRefIdeal := fun m ρ m' ρ' _ hag =>
  ⟨fun c => Cert.Scales.G _ _ _,
    (θ_run _ _ _).mono (fun _ h c => ⟨(h c).2.2.1.trans (Cert.XScalesIdeal.RefValue.final m c), (h c).2.2.2⟩)
      (Cert.XScalesIdeal.Value.run_blocks m ρ),
    (θ_run _ _ _).mono (fun _ h c => ⟨(h c).1.trans (by
        rw [(hag c).1, (hag c).2.1, (hag c).2.2, Cert.XScalesRefIdeal.Read.val_main_v32_eq]
        exact Cert.XScalesRefIdeal.RefValue.ref_eq _ _ _), (h c).2⟩)
      (Cert.XScalesRefIdeal.Value.run (F := Ideal) m' ρ')⟩

theorem claim : Cert.Claim := ⟨Cert.Dw.Gen.facts, Cert.DwIdeal.Gen.facts, Cert.DwRefIdeal.Gen.facts,
  Cert.XAmax.Gen.facts, Cert.XAmaxIdeal.Gen.facts, Cert.XAmaxRefIdeal.Gen.facts,
  Cert.DyAmax.Gen.facts, Cert.DyAmaxIdeal.Gen.facts, Cert.DyAmaxRefIdeal.Gen.facts,
  Cert.XScales.Gen.facts, Cert.XScalesIdeal.Gen.facts, Cert.XScalesRefIdeal.Gen.facts,
  frame_dw, frame_dwi, frame_dwri, frame_xa, frame_xai, frame_xari, frame_da, frame_dai, frame_dari, frame_xs, frame_xsi, frame_xsri, trivial, algebraic_dw, preserves_xa, algebraic_xa, preserves_da, algebraic_da, preserves_xs, algebraic_xs⟩

end Cert.Proof

end
